-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x11008 : Shape := ⟨3, ![2, 512, 11008]⟩
abbrev S_ : Shape := ⟨0, ![]⟩
abbrev S2x512x4096 : Shape := ⟨3, ![2, 512, 4096]⟩
abbrev S11008x4096 : Shape := ⟨2, ![11008, 4096]⟩
abbrev S1024x11008 : Shape := ⟨2, ![1024, 11008]⟩
abbrev S1024x4096 : Shape := ⟨2, ![1024, 4096]⟩
abbrev S1 : Shape := ⟨1, ![1]⟩
abbrev S3 : Shape := ⟨1, ![3]⟩
abbrev S1x1 : Shape := ⟨2, ![1, 1]⟩
abbrev S1024x256 : Shape := ⟨2, ![1024, 256]⟩
abbrev S256x4096 : Shape := ⟨2, ![256, 4096]⟩
abbrev S8x256 : Shape := ⟨2, ![8, 256]⟩
abbrev S128x8x256 : Shape := ⟨3, ![128, 8, 256]⟩
abbrev S32x4096 : Shape := ⟨2, ![32, 4096]⟩
abbrev S1024x512 : Shape := ⟨2, ![1024, 512]⟩
abbrev S256x512 : Shape := ⟨2, ![256, 512]⟩
abbrev S1x8x256 : Shape := ⟨3, ![1, 8, 256]⟩
abbrev S1x1x1 : Shape := ⟨3, ![1, 1, 1]⟩

abbrev nBuf : Space → Nat
  | .hbm => 17
  | .vmem => 14
  | .smem => 2
  | _ => 0

abbrev bufTy : (tb : Table) → Fin (tcTables nBuf tb) → BufTy
  | .hbm, ⟨0, _⟩ => ⟨S2x512x11008, .bf16⟩
  | .hbm, ⟨1, _⟩ => ⟨S_, .f32⟩
  | .hbm, ⟨2, _⟩ => ⟨S2x512x4096, .fp8e4m3⟩
  | .hbm, ⟨3, _⟩ => ⟨S_, .f32⟩
  | .hbm, ⟨4, _⟩ => ⟨S11008x4096, .fp8e4m3⟩
  | .hbm, ⟨5, _⟩ => ⟨S_, .f32⟩
  | .hbm, ⟨6, _⟩ => ⟨S11008x4096, .f32⟩
  | .hbm, ⟨7, _⟩ => ⟨S1024x11008, .bf16⟩
  | .hbm, ⟨8, _⟩ => ⟨S1024x4096, .fp8e4m3⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S3, .f32⟩
  | .hbm, ⟨13, _⟩ => ⟨S1024x4096, .bf16⟩
  | .hbm, ⟨14, _⟩ => ⟨S11008x4096, .f32⟩
  | .hbm, ⟨15, _⟩ => ⟨S1x1, .f32⟩
  | .hbm, ⟨16, _⟩ => ⟨S1024x11008, .fp8e5m2⟩
  | .local _ .vmem, ⟨0, _⟩ => ⟨S1024x256, .bf16⟩
  | .local _ .vmem, ⟨1, _⟩ => ⟨S1024x256, .bf16⟩
  | .local _ .vmem, ⟨2, _⟩ => ⟨S1024x4096, .fp8e4m3⟩
  | .local _ .vmem, ⟨3, _⟩ => ⟨S256x4096, .fp8e4m3⟩
  | .local _ .vmem, ⟨4, _⟩ => ⟨S256x4096, .fp8e4m3⟩
  | .local _ .vmem, ⟨5, _⟩ => ⟨S256x4096, .f32⟩
  | .local _ .vmem, ⟨6, _⟩ => ⟨S256x4096, .f32⟩
  | .local _ .vmem, ⟨7, _⟩ => ⟨S1024x4096, .bf16⟩
  | .local _ .vmem, ⟨8, _⟩ => ⟨S256x4096, .f32⟩
  | .local _ .vmem, ⟨9, _⟩ => ⟨S256x4096, .f32⟩
  | .local _ .vmem, ⟨10, _⟩ => ⟨S1024x256, .fp8e5m2⟩
  | .local _ .vmem, ⟨11, _⟩ => ⟨S1024x256, .fp8e5m2⟩
  | .local _ .vmem, ⟨12, _⟩ => ⟨S1024x4096, .f32⟩
  | .local _ .vmem, ⟨13, _⟩ => ⟨S8x256, .f32⟩
  | .local _ .smem, ⟨0, _⟩ => ⟨S3, .f32⟩
  | .local _ .smem, ⟨1, _⟩ => ⟨S1x1, .f32⟩
  | _, _ => ⟨S2x512x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![43], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_7 : BitVec 32 := 0#32
  let v20 : BitVec 1 := Scalar.cmpi .ne v19 c0_i32_7
  v20

@[reducible] def k0_t1_loop : Scf.Loop 32 :=
  let c0_i32_118 : BitVec 32 := 0#32
  let c32_i32 : BitVec 32 := 32#32
  let v157 : BitVec 32 := Scalar.addi c0_i32_118 c32_i32
  let c1_i32 : BitVec 32 := 1#32
  ⟨c0_i32_118, v157, c1_i32⟩
def k0_mult1 (k0_t1 : Fin k0_t1_loop.trips) : BitVec 32 :=
  let c0_i32_124 : BitVec 32 := 0#32
  let c0_i32_118 : BitVec 32 := 0#32
  let c1_i32 : BitVec 32 := 1#32
  let arg12 : BitVec 32 := Scf.iv c0_i32_118 c1_i32 k0_t1
  let c32_i32_123 : BitVec 32 := 32#32
  let v162 : BitVec 32 := Scalar.muli arg12 c32_i32_123
  let v163 : BitVec 32 := Scalar.addi c0_i32_124 v162
  v163
def k0_off1 (k0_t1 : Fin k0_t1_loop.trips) : Fin 2 → Nat :=
  let c0_i32_124 : BitVec 32 := 0#32
  let c0_i32_118 : BitVec 32 := 0#32
  let c1_i32 : BitVec 32 := 1#32
  let arg12 : BitVec 32 := Scf.iv c0_i32_118 c1_i32 k0_t1
  let c32_i32_123 : BitVec 32 := 32#32
  let v162 : BitVec 32 := Scalar.muli arg12 c32_i32_123
  let v163 : BitVec 32 := Scalar.addi c0_i32_124 v162
  let v165 : BitVec 32 := v163
  let v166 : Index := Scalar.indexCast v165
  let c0_126 : Index := 0#32
  ![v166.toNat, 0]
def k0_cond2 (i : grid0.Coords) : BitVec 1 :=
  let arg0 : BitVec 32 := BitVec.ofNat 32 (i 0).val
  let c42_i32 : BitVec 32 := 42#32
  let v154 : BitVec 1 := Scalar.cmpi .eq arg0 c42_i32
  let v155 : BitVec 32 := Scalar.extui v154
  let c0_i32_117 : BitVec 32 := 0#32
  let v156 : BitVec 1 := Scalar.cmpi .ne v155 c0_i32_117
  v156

@[reducible] def k0_t2_loop : Scf.Loop 32 :=
  let c0_i32_118 : BitVec 32 := 0#32
  let c32_i32 : BitVec 32 := 32#32
  let v157 : BitVec 32 := Scalar.addi c0_i32_118 c32_i32
  let c1_i32 : BitVec 32 := 1#32
  ⟨c0_i32_118, v157, c1_i32⟩
def k0_mult2 (k0_t2 : Fin k0_t2_loop.trips) : BitVec 32 :=
  let c0_i32_126 : BitVec 32 := 0#32
  let c0_i32_118 : BitVec 32 := 0#32
  let c1_i32 : BitVec 32 := 1#32
  let arg12 : BitVec 32 := Scf.iv c0_i32_118 c1_i32 k0_t2
  let c32_i32_125 : BitVec 32 := 32#32
  let v164 : BitVec 32 := Scalar.muli arg12 c32_i32_125
  let v165 : BitVec 32 := Scalar.addi c0_i32_126 v164
  v165
def k0_off2 (k0_t2 : Fin k0_t2_loop.trips) : Fin 2 → Nat :=
  let c0_i32_126 : BitVec 32 := 0#32
  let c0_i32_118 : BitVec 32 := 0#32
  let c1_i32 : BitVec 32 := 1#32
  let arg12 : BitVec 32 := Scf.iv c0_i32_118 c1_i32 k0_t2
  let c32_i32_125 : BitVec 32 := 32#32
  let v164 : BitVec 32 := Scalar.muli arg12 c32_i32_125
  let v165 : BitVec 32 := Scalar.addi c0_i32_126 v164
  let v166 : BitVec 32 := v165
  let v167 : Index := Scalar.indexCast v166
  let c0_127 : Index := 0#32
  ![v167.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x512x11008 : Shape := ⟨3, ![2, 512, 11008]⟩
abbrev S_ : Shape := ⟨0, ![]⟩
abbrev S2x512x4096 : Shape := ⟨3, ![2, 512, 4096]⟩
abbrev S11008x4096 : Shape := ⟨2, ![11008, 4096]⟩
abbrev S1 : Shape := ⟨1, ![1]⟩
abbrev S3 : Shape := ⟨1, ![3]⟩
abbrev S1024x11008 : Shape := ⟨2, ![1024, 11008]⟩
abbrev S1024x4096 : Shape := ⟨2, ![1024, 4096]⟩
abbrev S1x1 : Shape := ⟨2, ![1, 1]⟩
abbrev S1x1024x11008 : Shape := ⟨3, ![1, 1024, 11008]⟩
abbrev S1x1x1 : Shape := ⟨3, ![1, 1, 1]⟩

abbrev nBuf : Space → Nat
  | .hbm => 17
  | .vmem => 7
  | .smem => 2
  | _ => 0

abbrev bufTy : (tb : Table) → Fin (tcTables nBuf tb) → BufTy
  | .hbm, ⟨0, _⟩ => ⟨S2x512x11008, .bf16⟩
  | .hbm, ⟨1, _⟩ => ⟨S_, .f32⟩
  | .hbm, ⟨2, _⟩ => ⟨S2x512x4096, .fp8e4m3⟩
  | .hbm, ⟨3, _⟩ => ⟨S_, .f32⟩
  | .hbm, ⟨4, _⟩ => ⟨S11008x4096, .fp8e4m3⟩
  | .hbm, ⟨5, _⟩ => ⟨S_, .f32⟩
  | .hbm, ⟨6, _⟩ => ⟨S11008x4096, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S3, .f32⟩
  | .hbm, ⟨11, _⟩ => ⟨S1024x11008, .bf16⟩
  | .hbm, ⟨12, _⟩ => ⟨S1024x4096, .fp8e4m3⟩
  | .hbm, ⟨13, _⟩ => ⟨S1024x4096, .bf16⟩
  | .hbm, ⟨14, _⟩ => ⟨S11008x4096, .f32⟩
  | .hbm, ⟨15, _⟩ => ⟨S1x1, .f32⟩
  | .hbm, ⟨16, _⟩ => ⟨S1024x11008, .fp8e5m2⟩
  | .local _ .vmem, ⟨0, _⟩ => ⟨S1024x11008, .bf16⟩
  | .local _ .vmem, ⟨1, _⟩ => ⟨S1024x4096, .fp8e4m3⟩
  | .local _ .vmem, ⟨2, _⟩ => ⟨S11008x4096, .fp8e4m3⟩
  | .local _ .vmem, ⟨3, _⟩ => ⟨S11008x4096, .f32⟩
  | .local _ .vmem, ⟨4, _⟩ => ⟨S1024x4096, .bf16⟩
  | .local _ .vmem, ⟨5, _⟩ => ⟨S11008x4096, .f32⟩
  | .local _ .vmem, ⟨6, _⟩ => ⟨S1024x11008, .fp8e5m2⟩
  | .local _ .smem, ⟨0, _⟩ => ⟨S3, .f32⟩
  | .local _ .smem, ⟨1, _⟩ => ⟨S1x1, .f32⟩
  | _, _ => ⟨S2x512x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg8_0 : Ref sig .tc := ⟨.vmem, 6, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x11008 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11008x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x11008 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Same.lean ====
/- The kernel's program and the program it is compared in are, with no operation rewritten, the same program: each definition of
   the one is the other's, so a run of the one is a run of the other. -/
module

public import proofs.«01_k».proof.Defs
public import proofs.«01_k».proof.Proof.Gen.Kernel
public import proofs.«01_k».proof.Proof.Gen.KernelIdeal

@[expose] public section

-- the definitions compared are long terms
set_option maxRecDepth 65536

noncomputable section

namespace Cert.Same

open Idealize.ShloMosaic Idealize.SL.Sem

variable {F : FTy → Type} [FloatOps F]

local instance : Cert.Kernel.Facts := Cert.Kernel.Gen.facts
local instance : Cert.KernelIdeal.Facts := Cert.KernelIdeal.Gen.facts

/-- The two programs have the same body function. -/
theorem body_same : Cert.Kernel.cc0_fp8_linear_bwd (F := F) = Cert.KernelIdeal.cc0_fp8_linear_bwd (F := F) := rfl

/-- The two programs have the same table of bodies. -/
theorem defs₀_same : Cert.Kernel.defs₀ (F := F) = Cert.KernelIdeal.defs₀ (F := F) := by
  unfold Cert.Kernel.defs₀ Cert.KernelIdeal.defs₀
  with_unfolding_all refine congrArg Defs.onTc (funext fun l => funext fun x => ?_)
  match l, x with
  | 0, (t, s) => with_unfolding_all rfl

/-- The two programs have the same definitions, the pipeline's included. -/
theorem defs_same : Cert.Kernel.defs (F := F) = Cert.KernelIdeal.defs (F := F) := by
  unfold Cert.Kernel.defs Cert.KernelIdeal.defs
  with_unfolding_all exact congrArg (Pipeline.defs Cert.KernelIdeal.pcfgs) defs₀_same

/-- The two programs have the same main function. -/
theorem main_same : Cert.Kernel.main (F := F) = Cert.KernelIdeal.main (F := F) := by
  with_unfolding_all rfl

/-- So whatever holds of every run of the one holds of every run of the other. -/
theorem run_same (σ : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q := by
  rw [defs_same, main_same]
  with_unfolding_all exact h

end Cert.Same
-- ==== Proof.PI.Cases.lean ====
/- What the body's runs are stated over: its two branch conditions in closed form over the grid, where its output
   windows are idle, and the staging and scratch memrefs a point runs on. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 43 = 0 :=
  (fun t => by
    have ht : t.val < 43 := Nat.lt_of_lt_of_eq t.isLt N_0
    have e0 : (grid0.coords t 0).val = t.val / 1 % 43 := Pipeline.Grid.coords_val t 0 (by decide) rfl
    simp only [cond0_0, e0]
    word_cmp
   : ∀ t : Fin grid0.N, cond0_0 (grid0.coords t) ↔ t.val % 43 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 43 = 42 :=
  (fun t => by
    have ht : t.val < 43 := Nat.lt_of_lt_of_eq t.isLt N_0
    have e0 : (grid0.coords t 0).val = t.val / 1 % 43 := Pipeline.Grid.coords_val t 0 (by decide) rfl
    simp only [cond0_1, k0_cond2, e0]
    word_cmp
   : ∀ t : Fin grid0.N, cond0_1 (grid0.coords t) ↔ t.val % 43 = 42)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1024x4096 .bf16 := (Memref.whole cc0_stg5_0 : Memref sig .tc .vmem S1024x4096 .bf16).view
/-- One staging buffer of output window 6, through which its contents are stated (`View.read_writes_of_cover`: the
    choice does not matter). -/
abbrev VO0_6 : View sig .tc .vmem S256x4096 .f32 := (Memref.whole cc0_stg6_0 : Memref sig .tc .vmem S256x4096 .f32).view
/-- One staging buffer of output window 7, through which its contents are stated (`View.read_writes_of_cover`: the
    choice does not matter). -/
abbrev VO0_7 : View sig .tc .smem S1x1 .f32 := (Memref.whole cc0_stg7_0 : Memref sig .tc .smem S1x1 .f32).view
/-- One staging buffer of output window 8, through which its contents are stated (`View.read_writes_of_cover`: the
    choice does not matter). -/
abbrev VO0_8 : View sig .tc .vmem S1024x256 .fp8e5m2 := (Memref.whole cc0_stg8_0 : Memref sig .tc .vmem S1024x256 .fp8e5m2).view
/-- The staging buffer of window 0 at point `t`, as the pipeline passes it. -/
abbrev ms0_0 (t : Fin cfg0.N) : Memref sig .tc .smem S3 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .vmem S1024x256 .bf16 := win0_1.stage (cfg0.slots t 1)
/-- It is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .vmem S1024x4096 .fp8e4m3 := win0_2.stage (cfg0.slots t 2)
/-- It is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .vmem S256x4096 .fp8e4m3 := win0_3.stage (cfg0.slots t 3)
/-- It is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .vmem S256x4096 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S1024x4096 .bf16 := win0_5.stage (cfg0.slots t 5)
/-- It is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S256x4096 .f32 := win0_6.stage (cfg0.slots t 6)
/-- It is a whole buffer. -/
abbrev hs0_6 (t : Fin cfg0.N) : (ms0_6 t).IsWhole := hstage0_6 ((cfg0.slots t 6).cast nbuf0_6)
/-- The staging buffer of window 7 at point `t`. -/
abbrev ms0_7 (t : Fin cfg0.N) : Memref sig .tc .smem S1x1 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at point `t`. -/
abbrev ms0_8 (t : Fin cfg0.N) : Memref sig .tc .vmem S1024x256 .fp8e5m2 := win0_8.stage (cfg0.slots t 8)
/-- It is a whole buffer. -/
abbrev hs0_8 (t : Fin cfg0.N) : (ms0_8 t).IsWhole := hstage0_8 ((cfg0.slots t 8).cast nbuf0_8)
/-- The scratch buffers, which are the kernel's own and passed beside the windows. The first: the accumulator. -/
abbrev scM0_0 : Memref sig .tc .vmem S1024x4096 .f32 := Memref.whole cc0_scratch0
/-- The second: the running maxima. -/
abbrev scM0_1 : Memref sig .tc .vmem S8x256 .f32 := Memref.whole cc0_scratch1
/-- The scratch `arg10` the kernel carries between points, as a view: what it holds is stated through it. -/
abbrev VS0_0 : View sig .tc .vmem S1024x4096 .f32 := scM0_0.view
/-- The scratch `arg11` the kernel carries between points, as a view: what it holds is stated through it. -/
abbrev VS0_1 : View sig .tc .vmem S8x256 .f32 := scM0_1.view

/-- What holds of the scratch buffers when nothing is said of their contents: each is owned, at some contents, and so is the
    random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.PI.Tiles.lean ====
/- Reading back a buffer of 4096 columns that was written in eight tiles of 512 columns, left to right, over something
   else. Each tile may depend on what the buffer held when it was written. -/
module

public import proofs.«01_k».proof.Proof.PI.Cases
public import Idealize.ShloMosaic.Lib.WritesUnit
public import Idealize.ShloMosaic.Lib.CellWrites
public import Idealize.ShloMosaic.Lib.ValueIdxCore
public import Idealize.ShloMosaic.Lib.Pipeline.ValueKit.Tiles

@[expose] public section

noncomputable section

namespace Cert.KernelIdeal.Body

open Idealize.ShloMosaic Idealize.ShloMosaic.ValueIdx

variable {Val : EltTy → Type} {R : ℕ} {e : EltTy}

/-- Tile `k` of eight fits in the 4096 columns. -/
theorem tile_inb (R : ℕ) {k : ℕ} (hk : k < 8) :
    ∀ a : Fin 2, (![0, 512 * k] : Fin 2 → ℕ) a + (![R, 512] : Fin 2 → ℕ) a ≤ (![R, 4096] : Fin 2 → ℕ) a :=
  Fin.forall_fin_two.mpr ⟨by show 0 + R ≤ R; omega, by show 512 * k + 512 ≤ 4096; omega⟩

/-- The rectangle of tile `k`: all rows, columns `512 k` to `512 k + 511`. -/
abbrev tileRect (R : ℕ) (k : ℕ) (hk : k < 8) : Rect (⟨2, ![R, 4096]⟩ : Shape) :=
  Rect.unit (s := ⟨2, ![R, 4096]⟩) ![0, 512 * k] ![R, 512] (tile_inb R hk)

/-- The number of the tile a column lies in. -/
def tileNo (y : (⟨2, ![R, 4096]⟩ : Shape).Idx) : Fin 8 :=
  ⟨(y 1).val / 512, by have h : (y 1).val < 4096 := idx2_lt1 y; omega⟩

/-- The place of an element within its tile. -/
def tilePos (y : (⟨2, ![R, 4096]⟩ : Shape).Idx) : (⟨2, ![R, 512]⟩ : Shape).Idx :=
  ix2 (n0 := R) (n1 := 512) (y 0) ⟨(y 1).val % 512, Nat.mod_lt _ (by norm_num)⟩

/-- A matrix put together from eight tiles. -/
def ofTiles {α : Type} (P : Fin 8 → (⟨2, ![R, 512]⟩ : Shape).Idx → α) : (⟨2, ![R, 4096]⟩ : Shape).Idx → α :=
  fun y => P (tileNo y) (tilePos y)

/-- The first `n` tiles written over `L₀`, last first; tile `k`'s contents are `P k` of the writes made before it. -/
def tilesOver (P : Fin 8 → List (View.Piece Val (⟨2, ![R, 4096]⟩ : Shape) e) → (⟨2, ![R, 512]⟩ : Shape).Idx → Val e)
    (L₀ : List (View.Piece Val (⟨2, ![R, 4096]⟩ : Shape) e)) :
    (n : ℕ) → n ≤ 8 → List (View.Piece Val (⟨2, ![R, 4096]⟩ : Shape) e)
  | 0, _ => L₀
  | n + 1, h => ⟨tileRect R n h, P ⟨n, h⟩ (tilesOver P L₀ n (Nat.le_of_succ_le h))⟩ ::
      tilesOver P L₀ n (Nat.le_of_succ_le h)

variable {sig : RefSig} {κ : Kind} {sp : Space} (v : View sig κ sp (⟨2, ![R, 4096]⟩ : Shape) e) (f : v.ty.Contents Val)
variable (P : Fin 8 → List (View.Piece Val (⟨2, ![R, 4096]⟩ : Shape) e) → (⟨2, ![R, 512]⟩ : Shape).Idx → Val e)
variable (L₀ : List (View.Piece Val (⟨2, ![R, 4096]⟩ : Shape) e))

/-- After the first `n` tiles, whose contents are known to be `Q`, an element of those tiles reads its tile's content and
    any other element reads what the buffer held before. -/
theorem read_tilesOver (Q : Fin 8 → (⟨2, ![R, 512]⟩ : Shape).Idx → Val e) :
    ∀ (n : ℕ) (h : n ≤ 8), (∀ (k : ℕ) (hk : k < n), P ⟨k, by omega⟩ (tilesOver P L₀ k (by omega)) = Q ⟨k, by omega⟩) →
      ∀ y, v.read Val (v.writes Val f (tilesOver P L₀ n h)) y
        = if (y 1).val < 512 * n then ofTiles Q y else v.read Val (v.writes Val f L₀) y
  | 0, h, _, y => by rw [if_neg (by omega)]; rfl
  | n + 1, h, hQ, y => by
    have ih := read_tilesOver Q n (Nat.le_of_succ_le h) (fun k hk => hQ k (by omega)) y
    by_cases hy : 512 * n ≤ (y 1).val ∧ (y 1).val < 512 * n + 512
    · have hno : tileNo y = ⟨n, h⟩ := Fin.ext (by show (y 1).val / 512 = n; omega)
      rw [if_pos (by omega)]
      have hx : ∀ a : Fin 2, (y a).val = (![0, 512 * n] : Fin 2 → ℕ) a + (tilePos y a).val :=
        Fin.forall_fin_two.mpr ⟨by show (y 0).val = 0 + (y 0).val; omega,
          by show (y 1).val = 512 * n + (y 1).val % 512; omega⟩
      refine (View.read_writes_cons_unit_of_mem v f (tile_inb R h) _ _ y (tilePos y) rfl hx).trans ?_
      rw [hQ n (by omega)]
      unfold ofTiles
      rw [hno]
    · refine (View.read_writes_cons_unit_of_not_mem v f (tile_inb R h) _ _ y rfl (1 : Fin 2) ?_).trans ?_
      · show (y 1).val < 512 * n ∨ 512 * n + 512 ≤ (y 1).val
        omega
      · rw [ih]
        by_cases hlt : (y 1).val < 512 * n
        · rw [if_pos hlt, if_pos (by omega)]
        · rw [if_neg hlt, if_neg (by omega)]

/-- Eight tiles whose contents are known to be `Q` leave the matrix put together from `Q`. -/
theorem read_tilesOver_all (Q : Fin 8 → (⟨2, ![R, 512]⟩ : Shape).Idx → Val e)
    (hQ : ∀ (k : ℕ) (hk : k < 8), P ⟨k, hk⟩ (tilesOver P L₀ k (by omega)) = Q ⟨k, hk⟩) :
    v.read Val (v.writes Val f (tilesOver P L₀ 8 le_rfl)) = ofTiles Q := by
  funext y
  rw [read_tilesOver v f P L₀ Q 8 le_rfl (fun k hk => hQ k hk) y,
    if_pos (by have h : (y 1).val < 4096 := idx2_lt1 y; omega)]

/-- Tiles each computed from the part of the buffer it then replaces are what the same computation makes of the buffer's
    contents before the first tile. -/
theorem tilesOver_update (G : Fin 8 → ((⟨2, ![R, 512]⟩ : Shape).Idx → Val e) → (⟨2, ![R, 512]⟩ : Shape).Idx → Val e)
    (X : (⟨2, ![R, 4096]⟩ : Shape).Idx → Val e) (hX : v.read Val (v.writes Val f L₀) = X)
    (hP : ∀ (k : Fin 8) L, P k L = G k (v.readAt Val (tileRect R k k.isLt).toLoadRect (v.writes Val f L))) :
    ∀ (k : ℕ) (hk : k < 8), P ⟨k, hk⟩ (tilesOver P L₀ k (by omega)) = G ⟨k, hk⟩ (View.ld X (tileRect R k hk)) := by
  intro k
  induction k using Nat.strong_induction_on with
  | _ k ih =>
    intro hk
    rw [hP]
    refine congrArg (G ⟨k, hk⟩) ?_
    rw [View.readAt_eq_ld]
    funext x
    rw [View.ld_apply, View.ld_apply]
    have hx : ¬ ((tileRect R k hk).idx x 1).val < 512 * k := by
      rw [Rect.idx_unit_val]; show ¬ 512 * k + (x 1).val < 512 * k; omega
    rw [read_tilesOver v f P L₀ (fun k => G k (View.ld X (tileRect R k k.isLt))) k (by omega)
      (fun j hj => ih j hj (by omega)), if_neg hx, hX]

end Cert.KernelIdeal.Body

end
-- ==== Proof.PI.Rows.lean ====
/- The two row loops of the body. The one that clears the accumulator leaves zero everywhere; the one that writes the
   result out leaves every element of the accumulator scaled and rounded. -/
module

public import proofs.«01_k».proof.Proof.PI.Tiles
import all proofs.«01_k».proof.Proof.Gen.KernelIdeal.Loops

@[expose] public section

-- membership in a rectangle of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic Idealize.ShloMosaic.ValueIdx

variable {F : FTy → Type} [FloatOps F]

/-- The accumulator's contents once cleared. -/
def zeroAcc : Vec F S1024x4096 .f32 := broadcast S1024x4096 (Scalar.ofBits .f32 0x00000000#32)

/-- The result written out: every accumulated element times the product of two scales, rounded. -/
def dxOf (v0 v2 : Elt F .f32) (A : Vec F S1024x4096 .f32) : Vec F S1024x4096 .bf16 :=
  truncf .bf16 (mulf (φ := .f32) A (broadcast S1024x4096 (Scalar.mulf v0 v2 : F .f32))) bitsLt_bf16_f32

/-- Pieces which all agree with one matrix `g` read back, where they cover, as `g`. -/
theorem read_writes_of_agree {Val : EltTy → Type} {sig : RefSig} {κ : Kind} {sp : Space} {s : Shape} {e : EltTy}
    (v : View sig κ sp s e) (f : v.ty.Contents Val) (g : s.Idx → Val e) :
    ∀ L : List (View.Piece Val s e), (∀ p ∈ L, ∀ x : p.1.shape.Idx, p.2 x = g (p.1.emb x)) →
      (∀ y, ∃ p ∈ L, y ∈ p.1.set) → v.read Val (v.writes Val f L) = g := by
  intro L hL hc
  funext y
  obtain ⟨q, hq, hyq⟩ := hc y
  clear hc
  induction L with
  | nil => exact absurd hq List.not_mem_nil
  | cons p L ih =>
    by_cases hy : y ∈ p.1.set
    · obtain ⟨x, rfl⟩ : ∃ x, p.1.emb x = y := p.1.exists_idx_of_mem hy
      rw [View.read_writes_cons_emb]
      exact hL p List.mem_cons_self x
    · have hy' : y ∉ Finset.univ.map p.1.emb := by rwa [Rect.map_emb_univ]
      rw [View.writes_cons, View.read_slice_write_of_not_mem p.1 _ _ _ hy']
      refine ih (fun q hq => hL q (List.mem_cons_of_mem _ hq)) ?_
      rcases List.mem_cons.mp hq with rfl | hq'
      · exact absurd hyq hy
      · exact hq'

variable (c : Dev nD) (i : grid0.Coords)
  (arg1 : Memref sig .tc .smem S3 .f32) (harg1 : arg1.IsWhole)
  (arg2 : Memref sig .tc .vmem S1024x256 .bf16) (harg2 : arg2.IsWhole)
  (arg3 : Memref sig .tc .vmem S1024x4096 .fp8e4m3) (harg3 : arg3.IsWhole)
  (arg4 : Memref sig .tc .vmem S256x4096 .fp8e4m3) (harg4 : arg4.IsWhole)
  (arg5 : Memref sig .tc .vmem S256x4096 .f32) (harg5 : arg5.IsWhole)
  (arg6 : Memref sig .tc .vmem S1024x4096 .bf16) (harg6 : arg6.IsWhole)
  (arg7 : Memref sig .tc .vmem S256x4096 .f32) (harg7 : arg7.IsWhole)
  (arg8 : Memref sig .tc .smem S1x1 .f32) (harg8 : arg8.IsWhole)
  (arg9 : Memref sig .tc .vmem S1024x256 .fp8e5m2) (harg9 : arg9.IsWhole)
  (arg10 : Memref sig .tc .vmem S1024x4096 .f32) (harg10 : arg10.IsWhole)
  (arg11 : Memref sig .tc .vmem S8x256 .f32) (harg11 : arg11.IsWhole)

/-- One trip of the clearing loop stores one strip of zeros. -/
theorem trip1_list (h1 : k0_cond1 i = 1#1) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 h1 k
      = [⟨Rect.unit (s := S1024x4096) (k0_off1 k) S32x4096.size (k0_off1_inb i k h1), k0_pay6 (F := F)⟩] := by
  unfold tripL_k0_t1 trip_k0_t1
  rfl

/-- Every piece of the clearing loop is zero. -/
theorem clear_agree (h1 : k0_cond1 i = 1#1) : ∀ n : ℕ, n ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 arg11 harg11 h1 n, ∀ x : p.1.shape.Idx, p.2 x = zeroAcc (p.1.emb x)
  | 0, _, p, hp, _ => absurd hp List.not_mem_nil
  | n + 1, hn, p, hp, x => by
    rw [pb_k0_t1_succ (F := F) Variants.none c none i arg1 harg1 arg2 harg2 arg3 harg3 arg4 harg4 arg5 harg5 arg6 harg6 arg7 harg7 arg8 harg8 arg9 harg9 arg10 harg10 arg11 harg11 h1 ⟨n, hn⟩, trip1_list] at hp
    rcases List.mem_append.mp hp with hp | hp
    · obtain rfl := List.mem_singleton.mp hp
      rfl
    · exact clear_agree h1 n (Nat.le_of_succ_le hn) p hp x

/-- The clearing loop leaves zero everywhere, whatever the buffer held. -/
theorem read_clear (h1 : k0_cond1 i = 1#1) (f : arg10.view.ty.Contents (Elt F)) :
    arg10.view.read (Elt F) (arg10.view.writes (Elt F) f
        (pb_k0_t1 (F := F) Variants.none c none i arg1 harg1 arg2 harg2 arg3 harg3 arg4 harg4 arg5 harg5 arg6 harg6 arg7 harg7 arg8 harg8 arg9 harg9 arg10 harg10 arg11 harg11 h1 (Scf.trips k0_t1_loop.lb k0_t1_loop.ub k0_t1_loop.st)))
      = zeroAcc :=
  read_writes_of_agree _ _ _ _ (clear_agree c i arg1 harg1 arg2 harg2 arg3 harg3 arg4 harg4 arg5 harg5 arg6 harg6 arg7 harg7 arg8 harg8 arg9 harg9 arg10 harg10 arg11 harg11 h1 _ le_rfl)
    (View.cover_of_tiledL _ S32x4096.size (by sl_kernel_rfl))

/-- One trip of the loop that writes the result out stores one strip of the scaled and rounded accumulator. -/
theorem trip2_list (v0 v2 : Elt F .f32) (h2 : k0_cond2 i = 1#1) (X : arg10.view.ty.Contents (Elt F)) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 v0 v2 h2 X k
      = [⟨Rect.unit (s := S1024x4096) (k0_off2 k) S32x4096.size (k0_off2_inb i k h2), k0_pay2 v0 v2 (arg10.view.readAt (Elt F)
          (Rect.unit (s := S1024x4096) (k0_off2 k) S32x4096.size (k0_off2_inb i k h2)).toLoadRect X)⟩] := by
  unfold tripL_k0_t2 trip_k0_t2
  rfl

/-- Every piece of that loop agrees with the scaled and rounded accumulator. -/
theorem out_agree (v0 v2 : Elt F .f32) (h2 : k0_cond2 i = 1#1) (X : arg10.view.ty.Contents (Elt F)) : ∀ n : ℕ, n ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 arg11 harg11 v0 v2 h2 X n, ∀ x : p.1.shape.Idx,
      p.2 x = dxOf v0 v2 (arg10.view.read (Elt F) X) (p.1.emb x)
  | 0, _, p, hp, _ => absurd hp List.not_mem_nil
  | n + 1, hn, p, hp, x => by
    rw [pb_k0_t2_succ (F := F) Variants.none c none i arg1 harg1 arg2 harg2 arg3 harg3 arg4 harg4 arg5 harg5 arg6 harg6 arg7 harg7 arg8 harg8 arg9 harg9 arg10 harg10 arg11 harg11 v0 v2 h2 X ⟨n, hn⟩, trip2_list] at hp
    rcases List.mem_append.mp hp with hp | hp
    · obtain rfl := List.mem_singleton.mp hp
      rfl
    · exact out_agree v0 v2 h2 X n (Nat.le_of_succ_le hn) p hp x

/-- That loop leaves the whole accumulator scaled and rounded. -/
theorem read_out (v0 v2 : Elt F .f32) (h2 : k0_cond2 i = 1#1) (X : arg10.view.ty.Contents (Elt F)) (f : arg6.view.ty.Contents (Elt F)) :
    arg6.view.read (Elt F) (arg6.view.writes (Elt F) f
        (pb_k0_t2 (F := F) Variants.none c none i arg1 harg1 arg2 harg2 arg3 harg3 arg4 harg4 arg5 harg5 arg6 harg6 arg7 harg7 arg8 harg8 arg9 harg9 arg10 harg10 arg11 harg11 v0 v2 h2 X (Scf.trips k0_t2_loop.lb k0_t2_loop.ub k0_t2_loop.st)))
      = dxOf v0 v2 (arg10.view.read (Elt F) X) :=
  read_writes_of_agree _ _ _ _ (out_agree c i arg1 harg1 arg2 harg2 arg3 harg3 arg4 harg4 arg5 harg5 arg6 harg6 arg7 harg7 arg8 harg8 arg9 harg9 arg10 harg10 arg11 harg11 v0 v2 h2 X _ le_rfl)
    (View.cover_of_tiledL _ S32x4096.size (by sl_kernel_rfl))

end Cert.KernelIdeal.Body

end
-- ==== Proof.PI.RunA.lean ====
/- The body run in one of its three cases; the modules of the three cases form a chain. -/
module

public import proofs.«01_k».proof.Proof.PI.Cases
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body run at the first grid point: on whole staging buffers, the inputs' at their contents, the two carried scratch buffers
    at `xs0`, `xs1` and the outputs' at anything, the body runs to the end, leaving the inputs as they were and in every other
    buffer the listed pieces (last first) written over what it held. The lists are what the run itself finds. -/
noncomputable def runA (c : Dev nD) (i : grid0.Coords) (arg1 : Memref sig .tc .smem S3 .f32) (harg1 : arg1.IsWhole) (arg2 : Memref sig .tc .vmem S1024x256 .bf16) (harg2 : arg2.IsWhole) (arg3 : Memref sig .tc .vmem S1024x4096 .fp8e4m3) (harg3 : arg3.IsWhole) (arg4 : Memref sig .tc .vmem S256x4096 .fp8e4m3) (harg4 : arg4.IsWhole) (arg5 : Memref sig .tc .vmem S256x4096 .f32) (harg5 : arg5.IsWhole) (arg6 : Memref sig .tc .vmem S1024x4096 .bf16) (harg6 : arg6.IsWhole) (arg7 : Memref sig .tc .vmem S256x4096 .f32) (harg7 : arg7.IsWhole) (arg8 : Memref sig .tc .smem S1x1 .f32) (harg8 : arg8.IsWhole) (arg9 : Memref sig .tc .vmem S1024x256 .fp8e5m2) (harg9 : arg9.IsWhole) (arg10 : Memref sig .tc .vmem S1024x4096 .f32) (harg10 : arg10.IsWhole) (arg11 : Memref sig .tc .vmem S8x256 .f32) (harg11 : arg11.IsWhole) (hc0 : cond0_0 i) (hc1 : ¬cond0_1 i)
    (x0 : Vec F S3 .f32) (x1 : Vec F S1024x256 .bf16) (x2 : Vec F S1024x4096 .fp8e4m3) (x3 : Vec F S256x4096 .fp8e4m3) (x4 : Vec F S256x4096 .f32) (xs0 : Vec F S1024x4096 .f32) :
    Σ' (L5 : List (View.Piece (Elt F) S1024x4096 .bf16)), Σ' (L6 : List (View.Piece (Elt F) S256x4096 .f32)), Σ' (L7 : List (View.Piece (Elt F) S1x1 .f32)), Σ' (L8 : List (View.Piece (Elt F) S1024x256 .fp8e5m2)), Σ' (LS0 : List (View.Piece (Elt F) S1024x4096 .f32)), { LS1 : List (View.Piece (Elt F) S8x256 .f32) //
      ∀ (xi5 : Vec F S1024x4096 .bf16) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xi7 ∗ (∃ d, owns (c : Thread nD τ) arg9 fullShare d) ∗ owns (c : Thread nD τ) arg10 fullShare xs0 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_fp8_linear_bwd i arg1 harg1 arg2 harg2 arg3 harg3 arg4 harg4 arg5 harg5 arg6 harg6 arg7 harg7 arg8 harg8 arg9 harg9 arg10 harg10 arg11 harg11) K } := by
  refine ⟨[], ?_, [], ?_, ?_, ?_, fun xi5 xi7 E K => ?run⟩
  case run =>
    simp only [cc0_fp8_linear_bwd_eq_skeleton]; unfold cc0_fp8_linear_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs0; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Body

end
-- ==== Proof.PI.RunB.lean ====
/- The body run in one of its three cases; the modules of the three cases form a chain. -/
module

public import proofs.«01_k».proof.Proof.PI.RunA
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body run at an inner grid point: on whole staging buffers, the inputs' at their contents, the two carried scratch buffers
    at `xs0`, `xs1` and the outputs' at anything, the body runs to the end, leaving the inputs as they were and in every other
    buffer the listed pieces (last first) written over what it held. The lists are what the run itself finds. -/
noncomputable def runB (c : Dev nD) (i : grid0.Coords) (arg1 : Memref sig .tc .smem S3 .f32) (harg1 : arg1.IsWhole) (arg2 : Memref sig .tc .vmem S1024x256 .bf16) (harg2 : arg2.IsWhole) (arg3 : Memref sig .tc .vmem S1024x4096 .fp8e4m3) (harg3 : arg3.IsWhole) (arg4 : Memref sig .tc .vmem S256x4096 .fp8e4m3) (harg4 : arg4.IsWhole) (arg5 : Memref sig .tc .vmem S256x4096 .f32) (harg5 : arg5.IsWhole) (arg6 : Memref sig .tc .vmem S1024x4096 .bf16) (harg6 : arg6.IsWhole) (arg7 : Memref sig .tc .vmem S256x4096 .f32) (harg7 : arg7.IsWhole) (arg8 : Memref sig .tc .smem S1x1 .f32) (harg8 : arg8.IsWhole) (arg9 : Memref sig .tc .vmem S1024x256 .fp8e5m2) (harg9 : arg9.IsWhole) (arg10 : Memref sig .tc .vmem S1024x4096 .f32) (harg10 : arg10.IsWhole) (arg11 : Memref sig .tc .vmem S8x256 .f32) (harg11 : arg11.IsWhole) (hc0 : ¬cond0_0 i) (hc1 : ¬cond0_1 i)
    (x0 : Vec F S3 .f32) (x1 : Vec F S1024x256 .bf16) (x2 : Vec F S1024x4096 .fp8e4m3) (x3 : Vec F S256x4096 .fp8e4m3) (x4 : Vec F S256x4096 .f32) (xs0 : Vec F S1024x4096 .f32) (xs1 : Vec F S8x256 .f32) :
    Σ' (L5 : List (View.Piece (Elt F) S1024x4096 .bf16)), Σ' (L6 : List (View.Piece (Elt F) S256x4096 .f32)), Σ' (L7 : List (View.Piece (Elt F) S1x1 .f32)), Σ' (L8 : List (View.Piece (Elt F) S1024x256 .fp8e5m2)), Σ' (LS0 : List (View.Piece (Elt F) S1024x4096 .f32)), { LS1 : List (View.Piece (Elt F) S8x256 .f32) //
      ∀ (xi5 : Vec F S1024x4096 .bf16) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xi7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_fp8_linear_bwd i arg1 harg1 arg2 harg2 arg3 harg3 arg4 harg4 arg5 harg5 arg6 harg6 arg7 harg7 arg8 harg8 arg9 harg9 arg10 harg10 arg11 harg11) K } := by
  refine ⟨[], ?_, [], ?_, ?_, ?_, fun xi5 xi7 E K => ?run⟩
  case run =>
    simp only [cc0_fp8_linear_bwd_eq_skeleton]; unfold cc0_fp8_linear_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Body

end
-- ==== Proof.PI.RunC.lean ====
/- The body run in one of its three cases; the modules of the three cases form a chain. -/
module

public import proofs.«01_k».proof.Proof.PI.RunB
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body run at the last grid point: on whole staging buffers, the inputs' at their contents, the two carried scratch buffers
    at `xs0`, `xs1` and the outputs' at anything, the body runs to the end, leaving the inputs as they were and in every other
    buffer the listed pieces (last first) written over what it held. The lists are what the run itself finds. -/
noncomputable def runC (c : Dev nD) (i : grid0.Coords) (arg1 : Memref sig .tc .smem S3 .f32) (harg1 : arg1.IsWhole) (arg2 : Memref sig .tc .vmem S1024x256 .bf16) (harg2 : arg2.IsWhole) (arg3 : Memref sig .tc .vmem S1024x4096 .fp8e4m3) (harg3 : arg3.IsWhole) (arg4 : Memref sig .tc .vmem S256x4096 .fp8e4m3) (harg4 : arg4.IsWhole) (arg5 : Memref sig .tc .vmem S256x4096 .f32) (harg5 : arg5.IsWhole) (arg6 : Memref sig .tc .vmem S1024x4096 .bf16) (harg6 : arg6.IsWhole) (arg7 : Memref sig .tc .vmem S256x4096 .f32) (harg7 : arg7.IsWhole) (arg8 : Memref sig .tc .smem S1x1 .f32) (harg8 : arg8.IsWhole) (arg9 : Memref sig .tc .vmem S1024x256 .fp8e5m2) (harg9 : arg9.IsWhole) (arg10 : Memref sig .tc .vmem S1024x4096 .f32) (harg10 : arg10.IsWhole) (arg11 : Memref sig .tc .vmem S8x256 .f32) (harg11 : arg11.IsWhole) (hc0 : ¬cond0_0 i) (hc1 : cond0_1 i)
    (x0 : Vec F S3 .f32) (x1 : Vec F S1024x256 .bf16) (x2 : Vec F S1024x4096 .fp8e4m3) (x3 : Vec F S256x4096 .fp8e4m3) (x4 : Vec F S256x4096 .f32) (xs0 : Vec F S1024x4096 .f32) (xs1 : Vec F S8x256 .f32) :
    Σ' (L5 : List (View.Piece (Elt F) S1024x4096 .bf16)), Σ' (L6 : List (View.Piece (Elt F) S256x4096 .f32)), Σ' (L7 : List (View.Piece (Elt F) S1x1 .f32)), Σ' (L8 : List (View.Piece (Elt F) S1024x256 .fp8e5m2)), Σ' (LS0 : List (View.Piece (Elt F) S1024x4096 .f32)), { LS1 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_fp8_linear_bwd i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_fp8_linear_bwd_eq_skeleton]; unfold cc0_fp8_linear_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    iexists _; iexact HS1

end Cert.KernelIdeal.Body

end
-- ==== Proof.PI.Point.lean ====
/- What the body leaves in each of its buffers at one grid point, as a function of what it was given: the quantized block,
   the updated block of weight gradients, the accumulator with this block's product added, the running maxima; and, at the
   last point, the rounded result and the overall maximum. -/
module

public import proofs.«01_k».proof.Proof.PI.Rows
public import proofs.«01_k».proof.Proof.PI.RunC
public import Idealize.ShloMosaic.Lib.WholeRead
public import Idealize.ShloMosaic.Lib.VecWindow

@[expose] public section

-- rectangles of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic Idealize.ShloMosaic.ValueIdx

variable {F : FTy → Type} [FloatOps F]

/-- The quantized block. -/
def codesOf (x0 : Vec F S3 .f32) (x1 : Vec F S1024x256 .bf16) : Vec F S1024x256 .fp8e5m2 := k0_pay5 (x0 (ix1 0)) x1

/-- The updated block of weight gradients. -/
def mgoOf (x0 : Vec F S3 .f32) (x1 : Vec F S1024x256 .bf16) (x2 : Vec F S1024x4096 .fp8e4m3) (x3 : Vec F S256x4096 .fp8e4m3)
  (x4 : Vec F S256x4096 .f32) :
    Vec F S256x4096 .f32 :=
  ofTiles (R := 256) fun k => k0_pay11 (x0 (ix1 0)) (x0 (ix1 1)) (codesOf x0 x1) (View.ld x2 (tileRect 1024 k k.isLt))
    (View.ld x4 (tileRect 256 k k.isLt))

/-- The accumulator `X` with this block's product added. -/
def accOf (x0 : Vec F S3 .f32) (x1 : Vec F S1024x256 .bf16) (x3 : Vec F S256x4096 .fp8e4m3) (X : Vec F S1024x4096 .f32) :
    Vec F S1024x4096 .f32 :=
  ofTiles (R := 1024) fun k => k0_pay10 (codesOf x0 x1) (View.ld X (tileRect 1024 k k.isLt)) (View.ld x3 (tileRect 256 k k.isLt))

/-- The overall maximum, from the running maxima. -/
def finOf (Y : Vec F S8x256 .f32) : Vec F S1x1 .f32 := fun _ => k0_pay3 Y

variable (c : Dev nD) (i : grid0.Coords)
  (arg1 : Memref sig .tc .smem S3 .f32) (harg1 : arg1.IsWhole)
  (arg2 : Memref sig .tc .vmem S1024x256 .bf16) (harg2 : arg2.IsWhole)
  (arg3 : Memref sig .tc .vmem S1024x4096 .fp8e4m3) (harg3 : arg3.IsWhole)
  (arg4 : Memref sig .tc .vmem S256x4096 .fp8e4m3) (harg4 : arg4.IsWhole)
  (arg5 : Memref sig .tc .vmem S256x4096 .f32) (harg5 : arg5.IsWhole)
  (arg6 : Memref sig .tc .vmem S1024x4096 .bf16) (harg6 : arg6.IsWhole)
  (arg7 : Memref sig .tc .vmem S256x4096 .f32) (harg7 : arg7.IsWhole)
  (arg8 : Memref sig .tc .smem S1x1 .f32) (harg8 : arg8.IsWhole)
  (arg9 : Memref sig .tc .vmem S1024x256 .fp8e5m2) (harg9 : arg9.IsWhole)
  (arg10 : Memref sig .tc .vmem S1024x4096 .f32) (harg10 : arg10.IsWhole)
  (arg11 : Memref sig .tc .vmem S8x256 .f32) (harg11 : arg11.IsWhole)
variable (x0 : Vec F S3 .f32) (x1 : Vec F S1024x256 .bf16) (x2 : Vec F S1024x4096 .fp8e4m3) (x3 : Vec F S256x4096 .fp8e4m3)
  (x4 : Vec F S256x4096 .f32)

/-- The body's reading of the first scale … -/
abbrev rd0 : Elt F .f32 := View.readAt (Elt F) arg1.view (Rect.unit (s := S3) ![0] S1.size inb_S3_S1_0).toLoadRect (harg1.unread x0)
  (Shape.Idx.first (numel1_S1.symm ▸ Nat.one_pos))
/-- … of the second … -/
abbrev rd1 : Elt F .f32 := View.readAt (Elt F) arg1.view (Rect.unit (s := S3) ![1] S1.size inb_S3_S1_1).toLoadRect (harg1.unread x0)
  (Shape.Idx.first (numel1_S1.symm ▸ Nat.one_pos))
/-- … and of the third. -/
abbrev rd2 : Elt F .f32 := View.readAt (Elt F) arg1.view (Rect.unit (s := S3) ![2] S1.size inb_S3_S1_2).toLoadRect (harg1.unread x0)
  (Shape.Idx.first (numel1_S1.symm ▸ Nat.one_pos))
/-- The body's reading of its block of output gradients. -/
abbrev rdD : Vec F S1024x256 .bf16 := View.readAt (Elt F) arg2.view
  (Rect.unit (s := S1024x256) ![0, 0] S1024x256.size inb_S1024x256_S1024x256_0_0).toLoadRect (harg2.unread x1)

/-- The first scale read is the first of the scales … -/
theorem rd0_eq : rd0 arg1 harg1 x0 = x0 (ix1 0) := (harg1.readAt_unread x0 _ _).trans (congrArg x0 (by funext a; fin_cases a; rfl))
/-- … the second the second … -/
theorem rd1_eq : rd1 arg1 harg1 x0 = x0 (ix1 1) := (harg1.readAt_unread x0 _ _).trans (congrArg x0 (by funext a; fin_cases a; rfl))
/-- … and the third the third. -/
theorem rd2_eq : rd2 arg1 harg1 x0 = x0 (ix1 2) := (harg1.readAt_unread x0 _ _).trans (congrArg x0 (by funext a; fin_cases a; rfl))
/-- The block of output gradients read is the block given. -/
theorem rdD_eq : rdD arg2 harg2 x1 = x1 := by
  rw [rdD, View.readAt_eq_ld, harg2.read_unread]
  exact View.ld_unit_lit _ _ (by decide)

/-- A tile read from a whole buffer is the tile of its contents. -/
theorem rdTile {sp : Space} {R : ℕ} {e : EltTy} (a : Memref sig .tc sp (⟨2, ![R, 4096]⟩ : Shape) e) (ha : a.IsWhole)
    (X : (⟨2, ![R, 4096]⟩ : Shape).Idx → Elt F e) (k : Fin 8) :
    View.readAt (Elt F) a.view (tileRect R k k.isLt).toLoadRect (ha.unread X) = View.ld X (tileRect R k k.isLt) := by
  rw [View.readAt_eq_ld, ha.read_unread]

/-- The pieces written to the block of weight gradients. -/
abbrev mgoList : List (View.Piece (Elt F) S256x4096 .f32) :=
  tilesOver (R := 256) (fun k _ => k0_pay11 (rd0 arg1 harg1 x0) (rd1 arg1 harg1 x0) (k0_pay5 (rd0 arg1 harg1 x0) (rdD arg2 harg2 x1))
    (View.readAt (Elt F) arg3.view (tileRect 1024 k k.isLt).toLoadRect (harg3.unread x2))
    (View.readAt (Elt F) arg5.view (tileRect 256 k k.isLt).toLoadRect (harg5.unread x4))) [] 8 le_rfl

/-- The pieces written to the block of weight gradients make the updated block. -/
theorem read_mgoList (f : arg7.view.ty.Contents (Elt F)) :
    arg7.view.read (Elt F) (arg7.view.writes (Elt F) f (mgoList arg1 harg1 arg2 harg2 arg3 harg3 arg5 harg5 x0 x1 x2 x4))
      = mgoOf x0 x1 x2 x3 x4 :=
  read_tilesOver_all _ _ _ _ _ fun k hk => by
    simp only [rd0_eq, rd1_eq, rdD_eq]
    rw [rdTile arg3 harg3 x2 ⟨k, hk⟩, rdTile arg5 harg5 x4 ⟨k, hk⟩]
    rfl

/-- The pieces written to the accumulator when it already holds something. -/
abbrev accList (xs0 : Vec F S1024x4096 .f32) : List (View.Piece (Elt F) S1024x4096 .f32) :=
  tilesOver (R := 1024) (fun k _ => k0_pay10 (k0_pay5 (rd0 arg1 harg1 x0) (rdD arg2 harg2 x1))
    (View.readAt (Elt F) arg10.view (tileRect 1024 k k.isLt).toLoadRect (harg10.unread xs0))
    (View.readAt (Elt F) arg4.view (tileRect 256 k k.isLt).toLoadRect (harg4.unread x3))) [] 8 le_rfl

/-- The pieces written to the accumulator make what it held with this block's product added. -/
theorem read_accList (xs0 : Vec F S1024x4096 .f32) (f : arg10.view.ty.Contents (Elt F)) :
    arg10.view.read (Elt F) (arg10.view.writes (Elt F) f (accList arg1 harg1 arg2 harg2 arg4 harg4 arg10 harg10 x0 x1 x3 xs0))
      = accOf x0 x1 x3 xs0 :=
  read_tilesOver_all _ _ _ _ _ fun k hk => by
    simp only [rd0_eq, rdD_eq]
    rw [rdTile arg10 harg10 xs0 ⟨k, hk⟩, rdTile arg4 harg4 x3 ⟨k, hk⟩]
    rfl

/-! ## A point that is neither the first nor the last -/

section B
variable (hc0 : ¬cond0_0 i) (hc1 : ¬cond0_1 i) (xs0 : Vec F S1024x4096 .f32) (xs1 : Vec F S8x256 .f32)

/-- At an inner point the body leaves the updated block of weight gradients. -/
theorem mgo_B (f : arg7.view.ty.Contents (Elt F)) :
    arg7.view.read (Elt F) (arg7.view.writes (Elt F) f (runB c i arg1 harg1 arg2 harg2 arg3 harg3 arg4 harg4 arg5 harg5 arg6 harg6 arg7 harg7 arg8 harg8 arg9 harg9 arg10 harg10 arg11 harg11 hc0 hc1 x0 x1 x2 x3 x4 xs0 xs1).2.1) = mgoOf x0 x1 x2 x3 x4 :=
  read_mgoList arg1 harg1 arg2 harg2 arg3 harg3 arg5 harg5 arg7 x0 x1 x2 x3 x4 f

/-- At an inner point the body leaves the quantized block. -/
theorem codes_B (f : arg9.view.ty.Contents (Elt F)) :
    arg9.view.read (Elt F) (arg9.view.writes (Elt F) f (runB c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.2.1) = codesOf x0 x1 :=
  (View.read_writes_full (s := S1024x256) arg9.view f inb_S1024x256_S1024x256_0_0 _ _).trans (by
    show k0_pay5 (rd0 arg1 harg1 x0) (rdD arg2 harg2 x1) = _
    rw [rd0_eq, rdD_eq]; rfl)

/-- At an inner point the body leaves the accumulator with this block's product added. -/
theorem acc_B (f : arg10.view.ty.Contents (Elt F)) :
    arg10.view.read (Elt F) (arg10.view.writes (Elt F) f (runB c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.2.2.1)
      = accOf x0 x1 x3 xs0 :=
  read_accList arg1 harg1 arg2 harg2 arg4 harg4 arg10 harg10 x0 x1 x3 xs0 f

/-- At an inner point the body leaves the running maxima with this block's included. -/
theorem amax_B (f : arg11.view.ty.Contents (Elt F)) :
    arg11.view.read (Elt F) (arg11.view.writes (Elt F) f (runB c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.2.2.2.1)
      = k0_pay8 x1 xs1 :=
  (View.read_writes_full (s := S8x256) arg11.view f inb_S8x256_S8x256_0_0 _ _).trans (by
    show k0_pay8 (rdD arg2 harg2 x1) (View.readAt (Elt F) arg11.view
      (Rect.unit (s := S8x256) ![0, 0] S8x256.size inb_S8x256_S8x256_0_0).toLoadRect (harg11.unread xs1)) = _
    rw [rdD_eq, View.readAt_eq_ld, harg11.read_unread, View.ld_unit_lit _ _ (by decide)])

end B

/-! ## The last point -/

section C
variable (hc0 : ¬cond0_0 i) (hc1 : cond0_1 i) (xs0 : Vec F S1024x4096 .f32) (xs1 : Vec F S8x256 .f32)

/-- At the last point the body leaves the updated block of weight gradients. -/
theorem mgo_C (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 arg10 harg10 arg11 harg11 hc0 hc1 x0 x1 x2 x3 x4 xs0 xs1).2.1) = mgoOf x0 x1 x2 x3 x4 :=
  read_mgoList arg1 harg1 arg2 harg2 arg3 harg3 arg5 harg5 arg7 x0 x1 x2 x3 x4 f

/-- At the last point the body leaves the quantized block. -/
theorem codes_C (f : arg9.view.ty.Contents (Elt F)) :
    arg9.view.read (Elt F) (arg9.view.writes (Elt F) f (runC c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.2.1) = codesOf x0 x1 :=
  (View.read_writes_full (s := S1024x256) arg9.view f inb_S1024x256_S1024x256_0_0 _ _).trans (by
    show k0_pay5 (rd0 arg1 harg1 x0) (rdD arg2 harg2 x1) = _
    rw [rd0_eq, rdD_eq]; rfl)

/-- At the last point the body leaves the accumulator with this block's product added. -/
theorem acc_C (f : arg10.view.ty.Contents (Elt F)) :
    arg10.view.read (Elt F) (arg10.view.writes (Elt F) f (runC c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.2.2.1)
      = accOf x0 x1 x3 xs0 :=
  read_accList arg1 harg1 arg2 harg2 arg4 harg4 arg10 harg10 x0 x1 x3 xs0 f

/-- At the last point the body leaves the running maxima with this block's included. -/
theorem amax_C (f : arg11.view.ty.Contents (Elt F)) :
    arg11.view.read (Elt F) (arg11.view.writes (Elt F) f (runC c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.2.2.2.1)
      = k0_pay8 x1 xs1 :=
  (View.read_writes_full (s := S8x256) arg11.view f inb_S8x256_S8x256_0_0 _ _).trans (by
    show k0_pay8 (rdD arg2 harg2 x1) (View.readAt (Elt F) arg11.view
      (Rect.unit (s := S8x256) ![0, 0] S8x256.size inb_S8x256_S8x256_0_0).toLoadRect (harg11.unread xs1)) = _
    rw [rdD_eq, View.readAt_eq_ld, harg11.read_unread, View.ld_unit_lit _ _ (by decide)])

/-- The result is written out from the accumulator with this block's product added. -/
theorem dx_C (f : arg6.view.ty.Contents (Elt F)) :
    arg6.view.read (Elt F) (arg6.view.writes (Elt F) f (runC c i arg1 harg1 arg2 harg2 arg3 harg3 arg4 harg4 arg5 harg5 arg6 harg6 arg7 harg7 arg8 harg8 arg9 harg9 arg10 harg10 arg11 harg11 hc0 hc1 x0 x1 x2 x3 x4 xs0 xs1).1)
      = dxOf (x0 (ix1 0)) (x0 (ix1 2)) (accOf x0 x1 x3 xs0) := by
  refine (read_out c i arg1 harg1 arg2 harg2 arg3 harg3 arg4 harg4 arg5 harg5 arg6 harg6 arg7 harg7 arg8 harg8 arg9 harg9 arg10 harg10 arg11 harg11 (rd0 arg1 harg1 x0) (rd2 arg1 harg1 x0) hc1
    (arg10.view.writes (Elt F) arg10.view.junk (accList arg1 harg1 arg2 harg2 arg4 harg4 arg10 harg10 x0 x1 x3 xs0)) f).trans ?_
  rw [read_accList, rd0_eq, rd2_eq]

/-- The overall maximum is taken from the running maxima with this block's included. -/
theorem fin_C (f : arg8.view.ty.Contents (Elt F)) :
    arg8.view.read (Elt F) (arg8.view.writes (Elt F) f (runC c i arg1 harg1 arg2 harg2 arg3 harg3 arg4 harg4 arg5 harg5 arg6 harg6 arg7 harg7 arg8 harg8 arg9 harg9 arg10 harg10 arg11 harg11 hc0 hc1 x0 x1 x2 x3 x4 xs0 xs1).2.2.1)
      = finOf (k0_pay8 x1 xs1) := by
  refine (View.read_writes_full (s := S1x1) arg8.view f inb_S1x1_S1x1_0_0 _ _).trans ?_
  show (fun _ => k0_pay3 (View.readCov arg11.view [⟨Rect.unit (s := S8x256) ![0, 0] S8x256.size inb_S8x256_S8x256_0_0, k0_pay8 (rdD arg2 harg2 x1)
    (View.readAt (Elt F) arg11.view (Rect.unit (s := S8x256) ![0, 0] S8x256.size inb_S8x256_S8x256_0_0).toLoadRect (harg11.unread xs1))⟩]
    (Rect.unit (s := S8x256) ![0, 0] S8x256.size inb_S8x256_S8x256_0_0).toLoadRect)) = _
  rw [rdD_eq, View.readCov_unit_lit _ _ _ (by decide), View.readAt_eq_ld, harg11.read_unread, View.ld_unit_lit _ _ (by decide)]
  rfl

end C

/-! ## The first point -/

section A
variable (hc0 : cond0_0 i) (hc1 : ¬cond0_1 i) (xs0 : Vec F S1024x4096 .f32)

/-- At the first point the body leaves the updated block of weight gradients. -/
theorem mgo_A (f : arg7.view.ty.Contents (Elt F)) :
    arg7.view.read (Elt F) (arg7.view.writes (Elt F) f (runA c i arg1 harg1 arg2 harg2 arg3 harg3 arg4 harg4 arg5 harg5 arg6 harg6 arg7 harg7 arg8 harg8 arg9 harg9 arg10 harg10 arg11 harg11 hc0 hc1 x0 x1 x2 x3 x4 xs0).2.1) = mgoOf x0 x1 x2 x3 x4 :=
  read_mgoList arg1 harg1 arg2 harg2 arg3 harg3 arg5 harg5 arg7 x0 x1 x2 x3 x4 f

/-- At the first point the body leaves the quantized block. -/
theorem codes_A (f : arg9.view.ty.Contents (Elt F)) :
    arg9.view.read (Elt F) (arg9.view.writes (Elt F) f (runA c i arg1 harg1 arg2 harg2 arg3 harg3 arg4 harg4 arg5 harg5 arg6 harg6 arg7 harg7 arg8 harg8 arg9 harg9 arg10 harg10 arg11 harg11 hc0 hc1 x0 x1 x2 x3 x4 xs0).2.2.2.1) = codesOf x0 x1 :=
  (View.read_writes_full (s := S1024x256) arg9.view f inb_S1024x256_S1024x256_0_0 _ _).trans (by
    show k0_pay5 (rd0 arg1 harg1 x0) (rdD arg2 harg2 x1) = _
    rw [rd0_eq, rdD_eq]; rfl)

/-- At the first point the accumulator is cleared first, so it ends as this block's product added to zero. -/
theorem acc_A (f : arg10.view.ty.Contents (Elt F)) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 hc0 hc1 x0 x1 x2 x3 x4 xs0).2.2.2.2.1)
      = accOf x0 x1 x3 zeroAcc := by
  have hL : (runA c i arg1 harg1 arg2 harg2 arg3 harg3 arg4 harg4 arg5 harg5 arg6 harg6 arg7 harg7 arg8 harg8 arg9 harg9 arg10 harg10 arg11 harg11 hc0 hc1 x0 x1 x2 x3 x4 xs0).2.2.2.2.1
      = tilesOver (R := 1024) (fun k L => k0_pay10 (k0_pay5 (rd0 arg1 harg1 x0) (rdD arg2 harg2 x1))
        (View.readAt (Elt F) arg10.view (tileRect 1024 k k.isLt).toLoadRect (arg10.view.writes (Elt F) (harg10.unread xs0) L))
        (View.readAt (Elt F) arg4.view (tileRect 256 k k.isLt).toLoadRect (harg4.unread x3)))
        (pb_k0_t1 (F := F) Variants.none c none i arg1 harg1 arg2 harg2 arg3 harg3 arg4 harg4 arg5 harg5 arg6 harg6 arg7 harg7 arg8 harg8 arg9 harg9 arg10 harg10 arg11 harg11 hc0 (Scf.trips k0_t1_loop.lb k0_t1_loop.ub k0_t1_loop.st)) 8 le_rfl := rfl
  rw [hL]
  refine read_tilesOver_all _ _ _ _ _ fun k hk => ?_
  refine (tilesOver_update arg10.view (harg10.unread xs0) _ _
    (fun k w => k0_pay10 (k0_pay5 (rd0 arg1 harg1 x0) (rdD arg2 harg2 x1)) w
      (View.readAt (Elt F) arg4.view (tileRect 256 k k.isLt).toLoadRect (harg4.unread x3)))
    zeroAcc (read_clear c i arg1 harg1 arg2 harg2 arg3 harg3 arg4 harg4 arg5 harg5 arg6 harg6 arg7 harg7 arg8 harg8 arg9 harg9 arg10 harg10 arg11 harg11 hc0 _) (fun _ _ => rfl) k hk).trans ?_
  simp only [rd0_eq, rdD_eq]
  rw [rdTile arg4 harg4 x3 ⟨k, hk⟩]
  rfl

/-- At the first point the running maxima are cleared first. -/
theorem amax_A (f : arg11.view.ty.Contents (Elt F)) :
    arg11.view.read (Elt F) (arg11.view.writes (Elt F) f (runA c i arg1 harg1 arg2 harg2 arg3 harg3 arg4 harg4 arg5 harg5 arg6 harg6 arg7 harg7 arg8 harg8 arg9 harg9 arg10 harg10 arg11 harg11 hc0 hc1 x0 x1 x2 x3 x4 xs0).2.2.2.2.2.1)
      = k0_pay8 x1 k0_pay7 :=
  (View.read_writes_full (s := S8x256) arg11.view f inb_S8x256_S8x256_0_0 _ _).trans (by
    show k0_pay8 (rdD arg2 harg2 x1) (View.readCov arg11.view
      [⟨Rect.unit (s := S8x256) ![0, 0] S8x256.size inb_S8x256_S8x256_0_0, k0_pay7 (F := F)⟩]
      (Rect.unit (s := S8x256) ![0, 0] S8x256.size inb_S8x256_S8x256_0_0).toLoadRect) = _
    rw [rdD_eq, View.readCov_unit_lit _ _ _ (by decide)])

end A

end Cert.KernelIdeal.Body

end
-- ==== Proof.PI.Frame.lean ====
/- The pipeline's run: what the two carried buffers hold after each point, what the body leaves at each point, and from it the
   run of the whole program: it ends, its arguments are unchanged, its semaphores are at zero. -/
module

public import proofs.«01_k».proof.Proof.PI.Point
public import Idealize.ShloMosaic.Lib.Claim

@[expose] public section

-- rectangles of production extents: the elaborator recurses once per coordinate of the long axes
set_option maxRecDepth 16384

noncomputable section

namespace Cert.KernelIdeal.Body

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers hold -/

/-- The accumulator after point `n`: the products of the blocks `0 … n` added up from zero. -/
def accAt (c : Dev nD) : (n : ℕ) → n < cfg0.N → Vec F S1024x4096 .f32
  | 0, h => accOf (iblk m c 0 ⟨0, h⟩) (iblk m c 1 ⟨0, h⟩) (iblk m c 3 ⟨0, h⟩) zeroAcc
  | n + 1, h => accOf (iblk m c 0 ⟨n + 1, h⟩) (iblk m c 1 ⟨n + 1, h⟩) (iblk m c 3 ⟨n + 1, h⟩) (accAt c n (Nat.lt_of_succ_lt h))

/-- The running maxima after point `n`: of the blocks `0 … n`, from zero. -/
def amaxAt (c : Dev nD) : (n : ℕ) → n < cfg0.N → Vec F S8x256 .f32
  | 0, h => k0_pay8 (iblk m c 1 ⟨0, h⟩) k0_pay7
  | n + 1, h => k0_pay8 (iblk m c 1 ⟨n + 1, h⟩) (amaxAt c n (Nat.lt_of_succ_lt h))

/-- After the first point the accumulator holds the first block's product added to zero. -/
theorem accAt_zero (c : Dev nD) (t : Fin cfg0.N) (h : t.val = 0) :
    accAt m c t.val t.isLt = accOf (iblk m c 0 t) (iblk m c 1 t) (iblk m c 3 t) zeroAcc := by
  obtain ⟨n, hn⟩ := t
  cases n with
  | zero => rfl
  | succ n => exact absurd h (Nat.succ_ne_zero n)

/-- After a later point it holds what the point before left with this block's product added. -/
theorem accAt_pos (c : Dev nD) (t : Fin cfg0.N) (h : t.val ≠ 0) :
    accAt m c t.val t.isLt = accOf (iblk m c 0 t) (iblk m c 1 t) (iblk m c 3 t)
      (accAt m c (t.val - 1) (Nat.lt_of_le_of_lt (Nat.sub_le _ _) t.isLt)) := by
  obtain ⟨n, hn⟩ := t
  cases n with
  | zero => exact absurd rfl h
  | succ n => rfl

/-- After the first point the running maxima are those of the first block, from zero. -/
theorem amaxAt_zero (c : Dev nD) (t : Fin cfg0.N) (h : t.val = 0) :
    amaxAt m c t.val t.isLt = k0_pay8 (iblk m c 1 t) k0_pay7 := by
  obtain ⟨n, hn⟩ := t
  cases n with
  | zero => rfl
  | succ n => exact absurd h (Nat.succ_ne_zero n)

/-- After a later point they are what the point before left with this block's included. -/
theorem amaxAt_pos (c : Dev nD) (t : Fin cfg0.N) (h : t.val ≠ 0) :
    amaxAt m c t.val t.isLt = k0_pay8 (iblk m c 1 t)
      (amaxAt m c (t.val - 1) (Nat.lt_of_le_of_lt (Nat.sub_le _ _) t.isLt)) := by
  obtain ⟨n, hn⟩ := t
  cases n with
  | zero => exact absurd rfl h
  | succ n => rfl

/-- What holds between points: before the first the two carried buffers hold anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (amaxAt m c n hn)) ∗ (∃ r, prngReg c r))

/-- Before the first point the two carried buffers hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (amaxAt m c n hn)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (amaxAt m c (n - 1) (by omega))) ∗ (∃ r, prngReg c r)) := by
  cases n with
  | zero => exact absurd rfl hz
  | succ n => rfl

/-! ## The pipeline's proof data -/

/-- The run's data: the arrays as the pipeline finds them; after the body at point `t` each input's buffer at its block and each
    output's at what the block functions say. Outputs 5 and 7 are sent out at the last point only; before it what is said of them
    is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxOf (iblk m c 0 t (ix1 0)) (iblk m c 0 t (ix1 2)) (accAt m c t.val t.isLt)
    | ⟨6, _⟩ => mgoOf (iblk m c 0 t) (iblk m c 1 t) (iblk m c 2 t) (iblk m c 3 t) (iblk m c 4 t)
    | ⟨7, _⟩ => finOf (amaxAt m c t.val t.isLt)
    | ⟨8, _⟩ => codesOf (iblk m c 0 t) (iblk m c 1 t)
  Φ t := PhiS m c t.val (Nat.le_of_lt_succ t.isLt)
  q _ := fullShare
  owed _ := 0

/-- The data's arrays are the contents the pipeline finds. -/
theorem A_eq (c : Dev nD) (w : Fin cfg0.W) : (dats m 0 c).A w = V m c (Pipeline.arrRef spec0 w) := by
  dsimp only [dats]

/-- The same, at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, buffer by buffer. Input 0, the scales: its block. -/
theorem after0_0 (c : Dev nD) (t : Fin cfg0.N) : (dats m 0 c).after 0 t = iblk m c 0 t := by dsimp only [dats]
/-- Input 1, the gradient: its block. -/
theorem after0_1 (c : Dev nD) (t : Fin cfg0.N) : (dats m 0 c).after 1 t = iblk m c 1 t := by dsimp only [dats]
/-- Input 2, the activations: its block. -/
theorem after0_2 (c : Dev nD) (t : Fin cfg0.N) : (dats m 0 c).after 2 t = iblk m c 2 t := by dsimp only [dats]
/-- Input 3, the weights: its block. -/
theorem after0_3 (c : Dev nD) (t : Fin cfg0.N) : (dats m 0 c).after 3 t = iblk m c 3 t := by dsimp only [dats]
/-- Input 4, the given sum: its block. -/
theorem after0_4 (c : Dev nD) (t : Fin cfg0.N) : (dats m 0 c).after 4 t = iblk m c 4 t := by dsimp only [dats]
/-- The input gradient: the accumulator scaled and rounded. -/
theorem after0_5 (c : Dev nD) (t : Fin cfg0.N) : (dats m 0 c).after 5 t = dxOf (iblk m c 0 t (ix1 0)) (iblk m c 0 t (ix1 2)) (accAt m c t.val t.isLt) := by dsimp only [dats]
/-- The updated block of weight gradients. -/
theorem after0_6 (c : Dev nD) (t : Fin cfg0.N) : (dats m 0 c).after 6 t = mgoOf (iblk m c 0 t) (iblk m c 1 t) (iblk m c 2 t) (iblk m c 3 t) (iblk m c 4 t) := by dsimp only [dats]
/-- The largest of the running maxima. -/
theorem after0_7 (c : Dev nD) (t : Fin cfg0.N) : (dats m 0 c).after 7 t = finOf (amaxAt m c t.val t.isLt) := by dsimp only [dats]
/-- The block of codes. -/
theorem after0_8 (c : Dev nD) (t : Fin cfg0.N) : (dats m 0 c).after 8 t = codesOf (iblk m c 0 t) (iblk m c 1 t) := by dsimp only [dats]

/-- Each input's current staging buffer holds its block at every point. Input 0, the scales. -/
theorem before0_0 (c : Dev nD) (t : Fin cfg0.N) (d) : (dats m 0 c).before 0 t d = iblk m c 0 t :=
  before0_0_of m (dats m 0 c) (A_eq m c 0) (after0_0 m c) t d
/-- Input 1, the gradient. -/
theorem before0_1 (c : Dev nD) (t : Fin cfg0.N) (d) : (dats m 0 c).before 1 t d = iblk m c 1 t :=
  before0_1_of m (dats m 0 c) (A_eq m c 1) (after0_1 m c) t d
/-- Input 2, the activations. -/
theorem before0_2 (c : Dev nD) (t : Fin cfg0.N) (d) : (dats m 0 c).before 2 t d = iblk m c 2 t :=
  before0_2_of m (dats m 0 c) (A_eq m c 2) (after0_2 m c) t d
/-- Input 3, the weights. -/
theorem before0_3 (c : Dev nD) (t : Fin cfg0.N) (d) : (dats m 0 c).before 3 t d = iblk m c 3 t :=
  before0_3_of m (dats m 0 c) (A_eq m c 3) (after0_3 m c) t d
/-- Input 4, the given sum. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: the inputs' buffers hold their blocks, the position says which of the three cases the point is in, that
    case's run applies, and what each buffer then reads is the block function's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 43 := lt_of_lt_of_eq t.isLt (show cfg0.N = 43 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 6 t = owns (c : Thread nD τ) (ms0_6 t) fullShare ((dats m 0 c).after 6 t) from by
    unfold Dat.leavesExact; rw [liveAt0_6 t], after0_6]
  rw [show (dats m 0 c).leavesExact 8 t = owns (c : Thread nD τ) (ms0_8 t) fullShare ((dats m 0 c).after 8 t) from by
    unfold Dat.leavesExact; rw [liveAt0_8 t], after0_8]
  by_cases h0 : t.val % 43 = 0
  · have hz : t.val = 0 := by omega
    by_cases h1 : t.val % 43 = 42
    · exfalso; omega
    · skip
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [PhiS_castSucc m c t, PhiS_zero m c _ _ hz, PhiA0_eq, accAt_zero m c t hz, amaxAt_zero m c t hz]
      iintro ⟨⟨⟨⟨%ds0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) ds0).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [HS0]; · iexact HS0
      isplitl [HS1]; · iexact HS1
      iintro ⟨H0, H1, H2, H3, H4, H5, ⟨%e6, H6⟩, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact acc_A _ _ _ _ _ _ _ _ _ _ _ _ _ _ _ _ _ _ _ _ _ _ _ _ _ _ _ _ _ _ _ _ _
          unfold owns; iexists _; isplitr
          swap; · iexact HS1
          ipureintro; exact amax_A _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]
      · unfold owns; iexists _; isplitr
        swap; · iexact H6
        ipureintro; exact mgo_A _ _ _ _ _ _ _ _ _ _ _ _ _ _ _ _ _ _ _ _ _ _ _ _ _ _ _ _ _ _ _ _ _
      isplitl [H7]; · iexists _; iexact H7
      unfold owns; iexists _; isplitr
      swap; · iexact H8
      ipureintro; exact codes_A _ _ _ _ _ _ _ _ _ _ _ _ _ _ _ _ _ _ _ _ _ _ _ _ _ _ _ _ _ _ _ _ _
  · have hz : t.val ≠ 0 := fun h => h0 (by rw [h])
    by_cases h1 : t.val % 43 = 42
    · skip
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [PhiS_castSucc m c t, PhiS_pos m c _ _ hz, accAt_pos m c t hz, amaxAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, ⟨%e5, H5⟩, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact acc_C _ _ _ _ _ _ _ _ _ _ _ _ _ _ _ _ _ _ _ _ _ _ _ _ _ _ _ _ _ _ _ _ _ _
          unfold owns; iexists _; isplitr
          swap; · iexact HS1
          ipureintro; exact amax_C _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact dx_C _ _ _ _ _ _ _ _ _ _ _ _ _ _ _ _ _ _ _ _ _ _ _ _ _ _ _ _ _ _ _ _ _ _
      isplitl [H6]
      · unfold owns; iexists _; isplitr
        swap; · iexact H6
        ipureintro; exact mgo_C _ _ _ _ _ _ _ _ _ _ _ _ _ _ _ _ _ _ _ _ _ _ _ _ _ _ _ _ _ _ _ _ _ _
      isplitl [H7]
      · unfold owns; iexists _; isplitr
        swap; · iexact H7
        ipureintro; exact fin_C _ _ _ _ _ _ _ _ _ _ _ _ _ _ _ _ _ _ _ _ _ _ _ _ _ _ _ _ _ _ _ _ _ _
      unfold owns; iexists _; isplitr
      swap; · iexact H8
      ipureintro; exact codes_C _ _ _ _ _ _ _ _ _ _ _ _ _ _ _ _ _ _ _ _ _ _ _ _ _ _ _ _ _ _ _ _ _ _
    · skip
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [PhiS_castSucc m c t, PhiS_pos m c _ _ hz, accAt_pos m c t hz, amaxAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [HS0]; · iexact HS0
      isplitl [HS1]; · iexact HS1
      iintro ⟨H0, H1, H2, H3, H4, H5, ⟨%e6, H6⟩, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact acc_B _ _ _ _ _ _ _ _ _ _ _ _ _ _ _ _ _ _ _ _ _ _ _ _ _ _ _ _ _ _ _ _ _ _
          unfold owns; iexists _; isplitr
          swap; · iexact HS1
          ipureintro; exact amax_B _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]
      · unfold owns; iexists _; isplitr
        swap; · iexact H6
        ipureintro; exact mgo_B _ _ _ _ _ _ _ _ _ _ _ _ _ _ _ _ _ _ _ _ _ _ _ _ _ _ _ _ _ _ _ _ _ _
      isplitl [H7]; · iexists _; iexact H7
      unfold owns; iexists _; isplitr
      swap; · iexact H8
      ipureintro; exact codes_B _ _ _ _ _ _ _ _ _ _ _ _ _ _ _ _ _ _ _ _ _ _ _ _ _ _ _ _ _ _ _ _ _ _

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

/-- So the body does, at every point, what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first it can be given back: what the carried buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 43 := N_0; omega)

/-! ## The run and the frame -/

-- `θ_run_frame_track`'s implicit arguments are found by unifying its conclusion with this one, which takes unfolding plain
-- definitions in a metavariable's type
set_option backward.isDefEq.respectTransparency.types false in
/-- The run: every array of the pipeline ends at what the data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The program ends from any memory, with its arguments unchanged and its semaphores at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Body

end
-- ==== Proof.Math.lean ====
/- The four results as plain formulas over the extended reals, and the two facts about them that let a computation by
   blocks of 256 columns reach them: a sum of 11008 terms taken 256 at a time, and the largest of a set of magnitudes known
   by its upper bounds. -/
module

public import Idealize.ShloMosaic.Lib.Pointwise

@[expose] public section

noncomputable section

namespace Cert.Math

open Idealize.ShloMosaic

/-- A matrix of extended reals. -/
abbrev Mat (a b : ℕ) : Type := (⟨2, ![a, b]⟩ : Shape).Idx → EReal

/-- The code of one gradient element: multiplied by the scale's inverse and clipped to the range of the eight-bit format. -/
def code (s d : EReal) : EReal :=
  min (Ideal.ofBits FTy.f32 0x47600000#32) (max (Ideal.ofBits FTy.f32 0xC7600000#32) (d * Ideal.div 1 s))

/-- The magnitude of an element. -/
def mag (d : EReal) : EReal := max d (-d)

/-- A magnitude is not negative. -/
theorem mag_nonneg (d : EReal) : 0 ≤ mag d := by
  unfold mag
  rcases le_total 0 d with h | h
  · exact le_max_of_le_left h
  · exact le_max_of_le_right (by simpa using EReal.neg_le_neg_iff.mpr h)

/-- The value that the search for a largest element starts from. -/
def low : EReal := Ideal.ofBits FTy.f32 0xFF800000#32

/-- All the codes. -/
def codes (s : EReal) (D : Mat 1024 11008) : Mat 1024 11008 := fun j => code s (D j)

/-- The weight gradient added to what was given: the transposed codes times the activations, scaled. -/
def mgo (s s1 : EReal) (D : Mat 1024 11008) (X : Mat 1024 4096) (G : Mat 11008 4096) : Mat 11008 4096 := fun j =>
  G j + (∑ r : Fin 1024, code s (D (ix2 r (j 0))) * X (ix2 r (j 1))) * (s * s1)

/-- The input gradient: the codes times the weights, scaled. -/
def dx (s s2 : EReal) (D : Mat 1024 11008) (W : Mat 11008 4096) : Mat 1024 4096 := fun j =>
  (∑ k : Fin 11008, code s (D (ix2 (j 0) k)) * W (ix2 k (j 1))) * (s * s2)

/-- The largest magnitude. -/
def amax (D : Mat 1024 11008) : EReal :=
  (Finset.univ : Finset (Fin 1024 × Fin 11008)).fold max low fun x => mag (D (ix2 x.1 x.2))

/-- Term `k` of the sum that is element `(r, l)` of the codes times the weights, zero beyond the last column. -/
def term (s : EReal) (D : Mat 1024 11008) (W : Mat 11008 4096) (r : Fin 1024) (l : Fin 4096) (k : ℕ) : EReal :=
  if h : k < 11008 then code s (D (ix2 r ⟨k, h⟩)) * W (ix2 ⟨k, h⟩ l) else 0

/-- The first 11008 terms are the whole sum. -/
theorem sum_term (s : EReal) (D : Mat 1024 11008) (W : Mat 11008 4096) (r : Fin 1024) (l : Fin 4096) :
    ∑ k ∈ Finset.range 11008, term s D W r l k = ∑ k : Fin 11008, code s (D (ix2 r k)) * W (ix2 k l) := by
  rw [← Fin.sum_univ_eq_sum_range]
  exact Finset.sum_congr rfl fun k _ => dif_pos k.isLt

/-- One more block of 256 terms. -/
theorem sum_block (f : ℕ → EReal) (n : ℕ) :
    (∑ k ∈ Finset.range (256 * n), f k) + ∑ k : Fin 256, f (256 * n + k.val) = ∑ k ∈ Finset.range (256 * (n + 1)), f k := by
  rw [Nat.mul_succ, Finset.sum_range_add, Fin.sum_univ_eq_sum_range (fun k => f (256 * n + k)) 256]

/-- A bound of a largest element is a bound of the start and of every element. -/
theorem fold_max_le {α : Type} [Fintype α] (b z : EReal) (f : α → EReal) :
    (Finset.univ : Finset α).fold max b f ≤ z ↔ b ≤ z ∧ ∀ x, f x ≤ z := by
  rw [Finset.fold_max_le]
  exact and_congr_right fun _ => ⟨fun h x => h x (Finset.mem_univ x), fun h x _ => h x⟩

/-- The bounds of the largest magnitude are the bounds of all magnitudes (and of the start). -/
theorem amax_le (D : Mat 1024 11008) (z : EReal) :
    amax D ≤ z ↔ low ≤ z ∧ ∀ (r : Fin 1024) (k : Fin 11008), mag (D (ix2 r k)) ≤ z := by
  unfold amax
  rw [fold_max_le]
  exact and_congr_right fun _ => Prod.forall

end Cert.Math

end
-- ==== Proof.PI.Block.lean ====
/- What one block computes, element by element, over the extended reals. -/
module

public import proofs.«01_k».proof.Proof.PI.Point
public import proofs.«01_k».proof.Proof.Math

@[expose] public section

set_option maxRecDepth 16384

noncomputable section

namespace Cert.KernelIdeal.Block

open Cert.KernelIdeal Cert.KernelIdeal.Gen Cert.KernelIdeal.Body
open Idealize.ShloMosaic

/-- The codes of a block. -/
theorem codesOf_apply (x0 : Vec Ideal S3 .f32) (x1 : Vec Ideal S1024x256 .bf16) (j : S1024x256.Idx) :
    codesOf x0 x1 j = Math.code (x0 (ix1 0)) (x1 j) := by
  unfold codesOf
  pointwise [k0_pay5, k0_pay4]
  rfl

/-- The column of an element from the number of its tile and its column there. -/
theorem tile_col {R : ℕ} (y : (⟨2, ![R, 4096]⟩ : Shape).Idx) (h : 512 * (tileNo y).val + (tilePos y 1).val < 4096) :
    (⟨512 * (tileNo y).val + (tilePos y 1).val, h⟩ : Fin 4096) = y 1 :=
  Fin.ext (by show 512 * ((y 1).val / 512) + (y 1).val % 512 = (y 1).val; omega)

/-- The row of an element is its row in its tile. -/
theorem tile_row {R : ℕ} (y : (⟨2, ![R, 4096]⟩ : Shape).Idx) : tilePos y 0 = y 0 := rfl

/-- What one block adds to the accumulator. -/
theorem accOf_apply (x0 : Vec Ideal S3 .f32) (x1 : Vec Ideal S1024x256 .bf16) (x3 : Vec Ideal S256x4096 .fp8e4m3)
    (X : Vec Ideal S1024x4096 .f32) (y : S1024x4096.Idx) :
    accOf x0 x1 x3 X y = X y + ∑ k : Fin 256, Math.code (x0 (ix1 0)) (x1 (ix2 (y 0) k)) * x3 (ix2 k (y 1)) := by
  unfold accOf ofTiles
  pointwise [k0_pay10]
  simp only [codesOf_apply, tile_col, tile_row]
  conv_rhs => rw [eq_ix2 y]
  rfl

/-- What one block leaves in the sum of weight gradients. -/
theorem mgoOf_apply (x0 : Vec Ideal S3 .f32) (x1 : Vec Ideal S1024x256 .bf16) (x2 : Vec Ideal S1024x4096 .fp8e4m3)
    (x3 : Vec Ideal S256x4096 .fp8e4m3) (x4 : Vec Ideal S256x4096 .f32) (y : S256x4096.Idx) :
    mgoOf x0 x1 x2 x3 x4 y
      = x4 y + (∑ r : Fin 1024, Math.code (x0 (ix1 0)) (x1 (ix2 r (y 0))) * x2 (ix2 r (y 1))) * (x0 (ix1 0) * x0 (ix1 1)) := by
  unfold mgoOf ofTiles
  pointwise [k0_pay11]
  simp only [codesOf_apply, tile_col, tile_row]
  conv_rhs => rw [eq_ix2 y]
  rfl

/-- The bounds of a running maximum after a block: the bounds of what it was before and of the magnitudes in its place. -/
theorem pay8_le (x1 : Vec Ideal S1024x256 .bf16) (Y : Vec Ideal S8x256 .f32) (j : S8x256.Idx) (z : EReal) :
    k0_pay8 x1 Y j ≤ z ↔ Y j ≤ z ∧ Math.low ≤ z
      ∧ ∀ q : Fin 128, Math.mag (x1 (ix2 ⟨q.val * 8 + (j 0).val, by have h : (j 0).val < 8 := (j 0).isLt; omega⟩ (j 1))) ≤ z := by
  pointwise [k0_pay8, k0_pay4]
  rw [max_le_iff, Math.fold_max_le]
  exact and_congr_right fun _ => and_congr_right fun _ => Iff.rfl

/-- The running maxima start at zero. -/
theorem pay7_apply (j : S8x256.Idx) : k0_pay7 (F := Ideal) j = 0 := by
  pointwise [k0_pay7]

/-- The bounds of the largest of the running maxima. -/
theorem pay3_le (Y : Vec Ideal S8x256 .f32) (z : EReal) :
    k0_pay3 Y ≤ z ↔ Math.low ≤ z ∧ ∀ (a : Fin 8) (b : Fin 256), Y (ix2 a b) ≤ z := by
  unfold k0_pay3
  pointwise
  rw [Math.fold_max_le]
  exact and_congr_right fun _ => Prod.forall

/-- The accumulator starts at zero. -/
theorem zeroAcc_apply (j : S1024x4096.Idx) : zeroAcc (F := Ideal) j = 0 := by
  pointwise [zeroAcc]

/-- The input gradient from the accumulator. -/
theorem dxOf_apply (v0 v2 : Elt Ideal .f32) (A : Vec Ideal S1024x4096 .f32) (j : S1024x4096.Idx) :
    dxOf v0 v2 A j = A j * (v0 * v2) := by
  pointwise [dxOf]

end Cert.KernelIdeal.Block

end
-- ==== Proof.PI.Value.lean ====
/- What the four result arrays of the kernel hold when it ends, as formulas of the arrays its call finds. -/
module

public import proofs.«01_k».proof.Proof.PI.Frame
public import proofs.«01_k».proof.Proof.PI.Block
public import Idealize.ShloMosaic.Lib.Pipeline.ValueKit

@[expose] public section

set_option maxRecDepth 16384

noncomputable section

namespace Cert.KernelIdeal.Final

open Cert.KernelIdeal Cert.KernelIdeal.Gen Cert.KernelIdeal.Body Cert.KernelIdeal.Block
open Idealize.ShloMosaic Idealize.ShloMosaic.TcCoe Idealize.SL.Sem
open Idealize.ShloMosaic.Pipeline (Dat)

variable (m : (ℓ : Loc nD τ sig) → Buf (Elt Ideal) ℓ)

/-! ## The block of each input at a point -/

/-- The scales are one block. -/
theorem index0 : ∀ t : Fin cfg0.N, win0_0.index t = ![0] := (by decide +kernel : ∀ t : Fin grid0.N, _)
/-- The gradient goes by blocks of columns. -/
theorem index1 : ∀ t : Fin cfg0.N, win0_1.index t = ![0, t.val] := (by decide +kernel : ∀ t : Fin grid0.N, _)
/-- The activations are one block. -/
theorem index2 : ∀ t : Fin cfg0.N, win0_2.index t = ![0, 0] := (by decide +kernel : ∀ t : Fin grid0.N, _)
/-- The weights go by blocks of rows. -/
theorem index3 : ∀ t : Fin cfg0.N, win0_3.index t = ![t.val, 0] := (by decide +kernel : ∀ t : Fin grid0.N, _)
/-- The given sum goes by blocks of rows. -/
theorem index4 : ∀ t : Fin cfg0.N, win0_4.index t = ![t.val, 0] := (by decide +kernel : ∀ t : Fin grid0.N, _)
/-- The new sum goes by blocks of rows. -/
theorem index6 : ∀ t : Fin cfg0.N, win0_6.index t = ![t.val, 0] := (by decide +kernel : ∀ t : Fin grid0.N, _)
/-- The codes go by blocks of columns. -/
theorem index8 : ∀ t : Fin cfg0.N, win0_8.index t = ![0, t.val] := (by decide +kernel : ∀ t : Fin grid0.N, _)

/-- Column `k` of block `t` is a column of the whole. -/
theorem col_lt (t : Fin cfg0.N) (k : Fin 256) : 256 * t.val + k.val < 11008 := by
  have h : t.val < 43 := lt_of_lt_of_eq t.isLt N_0
  omega

/-- The scales at a point: all of them. -/
theorem iblk0 (c : Dev nD) (t : Fin cfg0.N) : iblk m c 0 t = V m c main_v5 := by
  blk_ext! [iblk, index0 t]
/-- Column `k` of the gradient at point `t` is column `256 t + k` of it. -/
theorem iblk1 (c : Dev nD) (t : Fin cfg0.N) (r : Fin 1024) (k : Fin 256) :
    iblk m c 1 t (ix2 r k) = V m c main_v0 (ix2 r ⟨256 * t.val + k.val, col_lt t k⟩) := by
  blk_ext! [iblk, index1 t]
/-- The activations at a point: all of them. -/
theorem iblk2 (c : Dev nD) (t : Fin cfg0.N) : iblk m c 2 t = V m c main_v1 := by
  blk_ext! [iblk, index2 t]
/-- Row `k` of the weights at point `t` is row `256 t + k` of them. -/
theorem iblk3 (c : Dev nD) (t : Fin cfg0.N) (k : Fin 256) (l : Fin 4096) :
    iblk m c 3 t (ix2 k l) = V m c main_arg4 (ix2 ⟨256 * t.val + k.val, col_lt t k⟩ l) := by
  blk_ext! [iblk, index3 t]
/-- Row `k` of the given sum at point `t` is row `256 t + k` of it. -/
theorem iblk4 (c : Dev nD) (t : Fin cfg0.N) (k : Fin 256) (l : Fin 4096) :
    iblk m c 4 t (ix2 k l) = V m c main_arg6 (ix2 ⟨256 * t.val + k.val, col_lt t k⟩ l) := by
  blk_ext! [iblk, index4 t]

/-! ## The blockwise results -/

/-- Element `(r, k)` of block `t` of the codes is element `(r, 256 t + k)` of the array. -/
theorem place8 (t : Fin cfg0.N) (r : Fin 1024) (k : Fin 256) :
    (win0_8.blk t).view.emb (ix2 r k) = ix2 r ⟨256 * t.val + k.val, col_lt t k⟩ := by
  blk_ext! [index8 t]

/-- Element `(k, l)` of block `t` of the sum of weight gradients is element `(256 t + k, l)` of the array. -/
theorem place6 (t : Fin cfg0.N) (k : Fin 256) (l : Fin 4096) :
    (win0_6.blk t).view.emb (ix2 k l) = ix2 ⟨256 * t.val + k.val, col_lt t k⟩ l := by
  blk_ext! [index6 t]

/-- The array of codes: all the codes. -/
theorem codes (c : Dev nD) : (dats m 0 c).arrAt 8 cfg0.N = Math.codes (V m c main_v5 (ix1 0)) (V m c main_v0) := by
  refine (dats m 0 c).arrAt_eq_of_covers 8 _ (by decide +kernel) fun t hf y => ?_
  blk_simp
  rw [after0_8]
  obtain ⟨r, k, rfl⟩ : ∃ (r : Fin 1024) (k : Fin 256), y = ix2 r k := ⟨y 0, y 1, eq_ix2 y⟩
  refine (codesOf_apply _ _ _).trans ?_
  rw [iblk0, iblk1, place8]
  rfl

/-- The sum of weight gradients, all of it. -/
theorem mgo (c : Dev nD) : (dats m 0 c).arrAt 6 cfg0.N
    = Math.mgo (V m c main_v5 (ix1 0)) (V m c main_v5 (ix1 1)) (V m c main_v0) (V m c main_v1) (V m c main_arg6) := by
  refine (dats m 0 c).arrAt_eq_of_covers 6 _ (by decide +kernel) fun t hf y => ?_
  blk_simp
  rw [after0_6]
  obtain ⟨k, l, rfl⟩ : ∃ (k : Fin 256) (l : Fin 4096), y = ix2 k l := ⟨y 0, y 1, eq_ix2 y⟩
  refine (mgoOf_apply _ _ _ _ _ _).trans ?_
  rw [iblk0, iblk2, iblk4, place6]
  have e : ∀ (g u : EReal) (f f' : Fin 1024 → EReal), (∀ r, f r = f' r) → g + (∑ r, f r) * u = g + (∑ r, f' r) * u :=
    fun g u f f' h => by rw [Finset.sum_congr rfl fun r _ => h r]
  exact e _ _ _ _ fun r => congrArg (fun q => Math.code _ q * _) (iblk1 m c t r k)

/-! ## The accumulated results -/

/-- After point `n` the accumulator holds the first `256 (n + 1)` terms of each sum. -/
theorem acc (c : Dev nD) (r : Fin 1024) (l : Fin 4096) : ∀ (n : ℕ) (h : n < cfg0.N), accAt m c n h (ix2 r l)
    = ∑ k ∈ Finset.range (256 * (n + 1)), Math.term (V m c main_v5 (ix1 0)) (V m c main_v0) (V m c main_arg4) r l k := by
  have step : ∀ (t : Fin cfg0.N) (X : Vec Ideal S1024x4096 .f32),
      accOf (iblk m c 0 t) (iblk m c 1 t) (iblk m c 3 t) X (ix2 r l)
        = X (ix2 r l) + ∑ k : Fin 256, Math.term (V m c main_v5 (ix1 0)) (V m c main_v0) (V m c main_arg4) r l (256 * t.val + k.val) := by
    intro t X
    refine (accOf_apply _ _ _ _ _).trans (congrArg (X (ix2 r l) + ·) (Finset.sum_congr rfl fun k _ => ?_))
    unfold Math.term
    rw [dif_pos (col_lt t k), iblk0, ← iblk1 m c t r k, ← iblk3 m c t k l]
    rfl
  intro n
  induction n with
  | zero =>
    intro h
    refine (step ⟨0, h⟩ zeroAcc).trans ?_
    rw [zeroAcc_apply, ← Math.sum_block _ 0]
    rfl
  | succ n ih =>
    intro h
    refine (step ⟨n + 1, h⟩ _).trans ?_
    rw [ih, Math.sum_block]

/-- The last accumulator times the scales is the input gradient. -/
theorem dx_eq (c : Dev nD) (t : Fin cfg0.N) (ht : t.val = 42) (j : S1024x4096.Idx) :
    dxOf (iblk m c 0 t (ix1 0)) (iblk m c 0 t (ix1 2)) (accAt m c t.val t.isLt) j
      = Math.dx (V m c main_v5 (ix1 0)) (V m c main_v5 (ix1 2)) (V m c main_v0) (V m c main_arg4) j := by
  obtain ⟨r, l, rfl⟩ : ∃ (r : Fin 1024) (l : Fin 4096), j = ix2 r l := ⟨j 0, j 1, eq_ix2 j⟩
  rw [dxOf_apply, acc, ht, Math.sum_term, iblk0]
  rfl

/-- The bounds of the running maximum at `(a, b)` after point `n`: the bounds of zero, of the start and of the magnitudes in
    rows `8 q + a` and columns `256 t + b` for `t` up to `n`. -/
theorem run_le (c : Dev nD) (a : Fin 8) (b : Fin 256) (z : EReal) : ∀ (n : ℕ) (h : n < cfg0.N), amaxAt m c n h (ix2 a b) ≤ z
    ↔ 0 ≤ z ∧ Math.low ≤ z ∧ ∀ t : Fin cfg0.N, t.val ≤ n → ∀ q : Fin 128,
        Math.mag (V m c main_v0 (ix2 ⟨q.val * 8 + a.val, by omega⟩ ⟨256 * t.val + b.val, col_lt t b⟩)) ≤ z := by
  have step : ∀ (t : Fin cfg0.N) (Y : Vec Ideal S8x256 .f32), k0_pay8 (iblk m c 1 t) Y (ix2 a b) ≤ z
      ↔ Y (ix2 a b) ≤ z ∧ Math.low ≤ z ∧ ∀ q : Fin 128,
        Math.mag (V m c main_v0 (ix2 ⟨q.val * 8 + a.val, by omega⟩ ⟨256 * t.val + b.val, col_lt t b⟩)) ≤ z := by
    intro t Y
    refine (pay8_le _ _ _ _).trans (and_congr_right fun _ => and_congr_right fun _ => forall_congr' fun q => ?_)
    rw [← iblk1]
    rfl
  intro n
  induction n with
  | zero =>
    intro h
    refine (step ⟨0, h⟩ (k0_pay7 (F := Ideal))).trans ?_
    rw [pay7_apply]
    refine and_congr_right fun _ => and_congr_right fun _ => ⟨fun H t ht => ?_, fun H => H _ le_rfl⟩
    obtain rfl : t = ⟨0, h⟩ := Fin.ext (Nat.le_zero.mp ht)
    exact H
  | succ n ih =>
    intro h
    refine (step ⟨n + 1, h⟩ _).trans ?_
    rw [ih]
    constructor
    · rintro ⟨⟨h0, h1, H⟩, -, H'⟩
      refine ⟨h0, h1, fun t ht => ?_⟩
      rcases Nat.lt_or_eq_of_le ht with hl | he
      · exact H t (Nat.le_of_lt_succ hl)
      · obtain rfl : t = ⟨n + 1, h⟩ := Fin.ext he
        exact H'
    · rintro ⟨h0, h1, H⟩
      exact ⟨⟨h0, h1, fun t ht => H t (Nat.le_succ_of_le ht)⟩, h1, H _ le_rfl⟩

/-- The largest of the running maxima after the last point is the largest magnitude: they have the same bounds. Starting the
    running maxima at zero changes nothing, magnitudes not being negative. -/
theorem amax_eq (c : Dev nD) (t : Fin cfg0.N) (ht : t.val = 42) :
    k0_pay3 (amaxAt m c t.val t.isLt) = Math.amax (V m c main_v0) := by
  refine eq_of_forall_ge_iff fun z => ?_
  rw [pay3_le, Math.amax_le]
  refine and_congr_right fun hz => ⟨fun H r k => ?_, fun H a b => (run_le m c a b z t.val t.isLt).mpr ?_⟩
  · have hk : k.val / 256 < cfg0.N := lt_of_lt_of_eq (by omega) N_0.symm
    have h2 := ((run_le m c ⟨r.val % 8, by omega⟩ ⟨k.val % 256, by omega⟩ z t.val t.isLt).mp (H _ _)).2.2 ⟨k.val / 256, hk⟩
      (by show k.val / 256 ≤ t.val; omega) ⟨r.val / 8, by omega⟩
    have er : (⟨r.val / 8 * 8 + r.val % 8, by omega⟩ : Fin 1024) = r := Fin.ext (by show r.val / 8 * 8 + r.val % 8 = r.val; omega)
    have ek : (⟨256 * (k.val / 256) + k.val % 256, by omega⟩ : Fin 11008) = k :=
      Fin.ext (by show 256 * (k.val / 256) + k.val % 256 = k.val; omega)
    rw [er, ek] at h2
    exact h2
  · exact ⟨(Math.mag_nonneg _).trans (H 0 0), hz, fun t _ q => H _ _⟩

/-! ## The arrays written back once, at the last point -/

/-- The last point. -/
def lastPoint : Fin cfg0.N := ⟨42, lt_of_lt_of_eq (by decide) N_0.symm⟩

/-- It is point 42. -/
theorem lastPoint_val : lastPoint.val = 42 := rfl

/-- The input gradient is written back once, whole, at the last point. -/
theorem whole5 : (cfg0.win 5).WholeAt lastPoint := by decide +kernel

/-- The largest magnitude is written back once, at the last point. -/
theorem whole7 : (cfg0.win 7).WholeAt lastPoint := by decide +kernel

/-- The input gradient, all of it. -/
theorem dx (c : Dev nD) : (dats m 0 c).arrAt 5 cfg0.N
    = Math.dx (V m c main_v5 (ix1 0)) (V m c main_v5 (ix1 2)) (V m c main_v0) (V m c main_arg4) := by
  have e := dx_eq m c lastPoint lastPoint_val
  have w := whole5
  generalize lastPoint = t at e w
  refine (dats m 0 c).arrAt_eq_of_after_last 5 t w _ fun j => ?_
  blk_simp
  rw [after0_5]
  exact e j

/-- The largest magnitude. -/
theorem amax (c : Dev nD) : (dats m 0 c).arrAt 7 cfg0.N = fun _ => Math.amax (V m c main_v0) := by
  have e := amax_eq m c lastPoint lastPoint_val
  have w := whole7
  generalize lastPoint = t at e w
  have e' : ∀ i, (dats m 0 c).after 7 t i = Math.amax (V m c main_v0) := fun i => (congrFun (after0_7 m c t) i).trans e
  exact (dats m 0 c).arrAt_eq_of_after_last 7 t w _ fun j => (cast_eq _ _).trans (e' _)

end Cert.KernelIdeal.Final

end
-- ==== Proof.RI.Value.lean ====
/- What the arrays of the reference hold when it ends, as functions of the arrays its one call finds. -/
module

public import proofs.«01_k».proof.Proof.Gen.ReferenceIdeal.Value
public import Idealize.ShloMosaic.Lib.Pipeline.ValueKit
public import Idealize.ShloMosaic.Lib.VecWindow
public import Idealize.ShloMosaic.Lib.WholeRead

@[expose] public section

set_option maxRecDepth 16384

noncomputable section

namespace Cert.ReferenceIdeal.Final

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## The block of each input is the array -/

/-- Input 0 is one block. -/
theorem index0 : win0_0.index t0_0 = fun _ => 0 := rfl
/-- The one block of input 0 is the whole array. -/
theorem iblk0 (c : Dev nD) : iblk m c 0 t0_0 = V m c main_v3 := by
  blk_ext! [iblk, index0]

/-- Input 1 is one block. -/
theorem index1 : win0_1.index t0_0 = fun _ => 0 := rfl
/-- The one block of input 1 is the whole array. -/
theorem iblk1 (c : Dev nD) : iblk m c 1 t0_0 = V m c main_v4 := by
  blk_ext! [iblk, index1]

/-- Input 2 is one block. -/
theorem index2 : win0_2.index t0_0 = fun _ => 0 := rfl
/-- The one block of input 2 is the whole array. -/
theorem iblk2 (c : Dev nD) : iblk m c 2 t0_0 = V m c main_v5 := by
  blk_ext! [iblk, index2]

/-- Input 3 is one block. -/
theorem index3 : win0_3.index t0_0 = fun _ => 0 := rfl
/-- The one block of input 3 is the whole array. -/
theorem iblk3 (c : Dev nD) : iblk m c 3 t0_0 = V m c main_arg4 := by
  blk_ext! [iblk, index3]

/-- Input 4 is one block. -/
theorem index4 : win0_4.index t0_0 = fun _ => 0 := rfl
/-- The one block of input 4 is the whole array. -/
theorem iblk4 (c : Dev nD) : iblk m c 4 t0_0 = V m c main_arg6 := by
  blk_ext! [iblk, index4]

/-- The scalar at place `k` of the three scales, read as the body reads it. -/
theorem scale_at (k : Fin 3) (X : S3.Idx → Elt F .f32) (h : ∀ a, (![k.val] : Fin 1 → ℕ) a + (![1] : Fin 1 → ℕ) a ≤ S3.size a)
    (i : (Rect.unit (s := S3) ![k.val] ![1] h).shape.Idx) : View.ld X (Rect.unit (s := S3) ![k.val] ![1] h) i = X (ix1 k) := by
  refine congrArg X (funext fun a => Fin.ext ?_)
  have hi : (i a).val < (![1] : Fin 1 → ℕ) a := (i a).isLt
  have e := ValueKit.rect_emb_unit_val (s := S3) ![k.val] ![1] h i a
  obtain rfl : a = 0 := Subsingleton.elim _ _
  have h0 : (i 0).val = 0 := Nat.lt_one_iff.mp hi
  exact e.trans (by rw [h0]; rfl)

/-- Result 0 holds the scaled product of the codes with the weights. -/
theorem dx (c : Dev nD) : (dats m 0 c).arrAt 5 cfg0.N
    = k0_pay6 (V m c main_v3 (ix1 0)) (V m c main_v3 (ix1 2)) (V m c main_v4) (V m c main_arg4) := by
  have e0 := (Memref.isWhole_whole cc0_stg0_0).read_unread (Val := Elt F) (V m c main_v3)
  have e1 := (Memref.isWhole_whole cc0_stg1_0).read_unread (Val := Elt F) (V m c main_v4)
  have e2 := (Memref.isWhole_whole cc0_stg2_0).read_unread (Val := Elt F) (V m c main_v5)
  have e3 := (Memref.isWhole_whole cc0_stg3_0).read_unread (Val := Elt F) (V m c main_arg4)
  have e4 := (Memref.isWhole_whole cc0_stg4_0).read_unread (Val := Elt F) (V m c main_arg6)
  refine (dats m 0 c).arrAt_eq_of_after_last 5 t0_0 (by decide +kernel) _ fun j => ?_
  blk_simp
  rw [after0_5]
  unfold outsAt0
  frame_out
  rw [iblk0, iblk1, iblk3]
  erw [e0, e1, e3]
  erw [scale_at 0, scale_at 2]

/-- Result 1 holds the given sum plus the scaled product of the transposed codes with the activations. -/
theorem mgo (c : Dev nD) : (dats m 0 c).arrAt 6 cfg0.N
    = k0_pay1 (V m c main_v3 (ix1 0)) (V m c main_v3 (ix1 1)) (k0_pay7 (V m c main_v3 (ix1 0)) (V m c main_v4) (V m c main_v5)) (V m c main_arg6) := by
  have e0 := (Memref.isWhole_whole cc0_stg0_0).read_unread (Val := Elt F) (V m c main_v3)
  have e1 := (Memref.isWhole_whole cc0_stg1_0).read_unread (Val := Elt F) (V m c main_v4)
  have e2 := (Memref.isWhole_whole cc0_stg2_0).read_unread (Val := Elt F) (V m c main_v5)
  have e3 := (Memref.isWhole_whole cc0_stg3_0).read_unread (Val := Elt F) (V m c main_arg4)
  have e4 := (Memref.isWhole_whole cc0_stg4_0).read_unread (Val := Elt F) (V m c main_arg6)
  refine (dats m 0 c).arrAt_eq_of_after_last 6 t0_0 (by decide +kernel) _ fun j => ?_
  blk_simp
  rw [after0_6]
  unfold outsAt0
  frame_out
  rw [iblk0, iblk1, iblk2, iblk4]
  erw [e0, e1, e2, e4]
  erw [scale_at 0, scale_at 1]

/-- Result 2 holds the largest magnitude. -/
theorem amax (c : Dev nD) : (dats m 0 c).arrAt 7 cfg0.N
    = fun _ => k0_pay3 (V m c main_v4) := by
  have e0 := (Memref.isWhole_whole cc0_stg0_0).read_unread (Val := Elt F) (V m c main_v3)
  have e1 := (Memref.isWhole_whole cc0_stg1_0).read_unread (Val := Elt F) (V m c main_v4)
  have e2 := (Memref.isWhole_whole cc0_stg2_0).read_unread (Val := Elt F) (V m c main_v5)
  have e3 := (Memref.isWhole_whole cc0_stg3_0).read_unread (Val := Elt F) (V m c main_arg4)
  have e4 := (Memref.isWhole_whole cc0_stg4_0).read_unread (Val := Elt F) (V m c main_arg6)
  refine (dats m 0 c).arrAt_eq_of_after_last 7 t0_0 (by decide +kernel) _ fun j => ?_
  blk_simp
  rw [after0_7]
  unfold outsAt0
  frame_out
  rw [iblk1]
  erw [e1]

/-- Result 3 holds the codes. -/
theorem codes (c : Dev nD) : (dats m 0 c).arrAt 8 cfg0.N
    = k0_pay4 (V m c main_v3 (ix1 0)) (V m c main_v4) := by
  have e0 := (Memref.isWhole_whole cc0_stg0_0).read_unread (Val := Elt F) (V m c main_v3)
  have e1 := (Memref.isWhole_whole cc0_stg1_0).read_unread (Val := Elt F) (V m c main_v4)
  have e2 := (Memref.isWhole_whole cc0_stg2_0).read_unread (Val := Elt F) (V m c main_v5)
  have e3 := (Memref.isWhole_whole cc0_stg3_0).read_unread (Val := Elt F) (V m c main_arg4)
  have e4 := (Memref.isWhole_whole cc0_stg4_0).read_unread (Val := Elt F) (V m c main_arg6)
  refine (dats m 0 c).arrAt_eq_of_after_last 8 t0_0 (by decide +kernel) _ fun j => ?_
  blk_simp
  rw [after0_8]
  unfold outsAt0
  frame_out
  rw [iblk0, iblk1]
  erw [e0, e1]
  erw [scale_at 0]

end Cert.ReferenceIdeal.Final

end
-- ==== Proof.RI.Block.lean ====
/- What the reference computes, element by element, over the extended reals. -/
module

public import proofs.«01_k».proof.Proof.Gen.ReferenceIdeal.Skeleton
public import proofs.«01_k».proof.Proof.Math

@[expose] public section

set_option maxRecDepth 16384

noncomputable section

namespace Cert.ReferenceIdeal.Block

open Cert.ReferenceIdeal Cert.ReferenceIdeal.Gen
open Idealize.ShloMosaic

/-- The codes. -/
theorem codes (s : Elt Ideal .f32) (D : Vec Ideal S1024x11008 .bf16) : k0_pay4 s D = Math.codes s D := by
  funext j
  pointwise [k0_pay4, k0_pay2]
  rfl

/-- The input gradient. -/
theorem dx (s s2 : Elt Ideal .f32) (D : Vec Ideal S1024x11008 .bf16) (W : Vec Ideal S11008x4096 .fp8e4m3) :
    k0_pay6 s s2 D W = Math.dx s s2 D W := by
  funext j
  pointwise [k0_pay6, k0_pay5]
  rw [codes]
  rfl

/-- The sum of weight gradients. -/
theorem mgo (s s1 : Elt Ideal .f32) (D : Vec Ideal S1024x11008 .bf16) (X : Vec Ideal S1024x4096 .fp8e4m3)
    (G : Vec Ideal S11008x4096 .f32) : k0_pay1 s s1 (k0_pay7 s D X) G = Math.mgo s s1 D X G := by
  funext j
  pointwise [k0_pay1, k0_pay7, k0_pay5]
  rw [codes]
  rfl

/-- The largest magnitude. -/
theorem amax (D : Vec Ideal S1024x11008 .bf16) : k0_pay3 D = Math.amax D := by
  unfold k0_pay3
  pointwise [k0_pay2]
  rfl

end Cert.ReferenceIdeal.Block

end
-- ==== Proof.Host.lean ====
/- What the two programs' host lines put in the arrays their calls read: the same arrays of the arguments on both sides. -/
module

public import proofs.«01_k».proof.Proof.RI.Value
public import proofs.«01_k».proof.Proof.PI.Frame
public import Idealize.ShloMosaic.Lib.Claim

@[expose] public section

set_option maxRecDepth 16384

noncomputable section

namespace Cert.Host

open Idealize.ShloMosaic Idealize.ShloMosaic.TcCoe Idealize.SL.Sem

variable {F : FTy → Type} [FloatOps F]

/-- The three scales as one array. -/
def scalesOf (a b d : Cert.KernelIdeal.S_.Idx → Elt F .f32) : Cert.KernelIdeal.S3.Idx → Elt F .f32 :=
  concatenate Cert.KernelIdeal.S3 0
    [⟨Cert.KernelIdeal.S1, broadcastInDim Cert.KernelIdeal.S1 ![] Cert.KernelIdeal.Gen.bcast_S_S1 a⟩,
     ⟨Cert.KernelIdeal.S1, broadcastInDim Cert.KernelIdeal.S1 ![] Cert.KernelIdeal.Gen.bcast_S_S1 b⟩,
     ⟨Cert.KernelIdeal.S1, broadcastInDim Cert.KernelIdeal.S1 ![] Cert.KernelIdeal.Gen.bcast_S_S1 d⟩]
    Cert.KernelIdeal.Gen.concatenates_S1_S1_S1_S3_d0

namespace Kernel

open Cert.KernelIdeal Cert.KernelIdeal.Gen

variable (m : (ℓ : Loc nD τ sig) → Buf (Elt F) ℓ)

/-- The kernel's call finds the three scales in one array. -/
theorem scales (c : Dev nD) : V m c main_v5
    = scalesOf (m ((c : Thread nD τ).loc main_arg1)) (m ((c : Thread nD τ).loc main_arg3)) (m ((c : Thread nD τ).loc main_arg5)) := by
  show StableHlo.after hostOps0 _ (Proc.devRef .tc main_v5) = _
  after_results
  rfl

/-- The kernel's call finds the gradient with its two leading axes merged. -/
theorem dy (c : Dev nD) : V m c main_v0
    = shapeCast S1024x11008 (m ((c : Thread nD τ).loc main_arg0)) shapeCasts_S2x512x11008_S1024x11008 := by
  show StableHlo.after hostOps0 _ (Proc.devRef .tc main_v0) = _
  after_results
  rfl

/-- The kernel's call finds the activations with their two leading axes merged. -/
theorem x (c : Dev nD) : V m c main_v1
    = shapeCast S1024x4096 (m ((c : Thread nD τ).loc main_arg2)) shapeCasts_S2x512x4096_S1024x4096 := by
  show StableHlo.after hostOps0 _ (Proc.devRef .tc main_v1) = _
  after_results
  rfl

end Kernel

namespace Reference

open Cert.ReferenceIdeal Cert.ReferenceIdeal.Gen

variable (m : (ℓ : Loc nD τ sig) → Buf (Elt F) ℓ)

/-- The reference's call finds the three scales in one array. -/
theorem scales (c : Dev nD) : V m c main_v3
    = scalesOf (m ((c : Thread nD τ).loc main_arg1)) (m ((c : Thread nD τ).loc main_arg3)) (m ((c : Thread nD τ).loc main_arg5)) := by
  show StableHlo.after hostOps0 _ (Proc.devRef .tc main_v3) = _
  after_results
  rfl

/-- The reference's call finds the gradient with its two leading axes merged. -/
theorem dy (c : Dev nD) : V m c main_v4
    = shapeCast S1024x11008 (m ((c : Thread nD τ).loc main_arg0)) shapeCasts_S2x512x11008_S1024x11008 := by
  show StableHlo.after hostOps0 _ (Proc.devRef .tc main_v4) = _
  after_results
  rfl

/-- The reference's call finds the activations with their two leading axes merged. -/
theorem x (c : Dev nD) : V m c main_v5
    = shapeCast S1024x4096 (m ((c : Thread nD τ).loc main_arg2)) shapeCasts_S2x512x4096_S1024x4096 := by
  show StableHlo.after hostOps0 _ (Proc.devRef .tc main_v5) = _
  after_results
  rfl

end Reference

end Cert.Host

end
-- ==== Proof.Equation.lean ====
/- The equation: from equal arguments the kernel and the reference end with the same four results, and with their arguments
   unchanged. -/
module

public import proofs.«01_k».proof.Defs
public import proofs.«01_k».proof.Proof.PI.Value
public import proofs.«01_k».proof.Proof.RI.Value
public import proofs.«01_k».proof.Proof.RI.Block
public import proofs.«01_k».proof.Proof.Host

@[expose] public section

set_option maxRecDepth 16384

noncomputable section

open Idealize.ShloMosaic Idealize.ShloMosaic.TcCoe Idealize.SL.Sem

namespace Cert.KernelIdeal.Final

open Cert.KernelIdeal Cert.KernelIdeal.Gen

variable (m : (ℓ : Loc nD τ sig) → Buf (Elt Ideal) ℓ) (ρ : Dev nD → PrngReg)

/-- The kernel's run: its four results, and its arguments unchanged. -/
theorem run : θ_run (defs (F := Ideal)) (onTc (τ := τ) (main (F := Ideal))) ⟨m, fun _ => 0, ρ⟩ fun r => ∀ c : Dev nD,
    r.2.mem ((c : Thread nD τ).loc main_v6_0) = Math.dx (V m c main_v5 (ix1 0)) (V m c main_v5 (ix1 2)) (V m c main_v0) (V m c main_arg4)
    ∧ r.2.mem ((c : Thread nD τ).loc main_v6_1) = Math.mgo (V m c main_v5 (ix1 0)) (V m c main_v5 (ix1 1)) (V m c main_v0) (V m c main_v1) (V m c main_arg6)
    ∧ r.2.mem ((c : Thread nD τ).loc main_v6_2) = (fun _ => Math.amax (V m c main_v0))
    ∧ r.2.mem ((c : Thread nD τ).loc main_v6_3) = Math.codes (V m c main_v5 (ix1 0)) (V m c main_v0)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  refine (θ_run defs _ _).mono (fun r h c => ?_) (Body.run_main m ρ)
  exact ⟨((h c).1 5).trans (dx m c), ((h c).1 6).trans (mgo m c), ((h c).1 7).trans (amax m c), ((h c).1 8).trans (codes m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 3).trans (((Body.dats m 0 c).arrAt_in 3 rfl _).trans ((Body.A_eq m c 3).trans (V_main_arg4 m c))),
    ((h c).2 main_arg5 (Pipeline.mem_restRefs_of main_arg5 (by decide) (by decide))).trans (V_main_arg5 m c),
    ((h c).1 4).trans (((Body.dats m 0 c).arrAt_in 4 rfl _).trans ((Body.A_eq m c 4).trans (V_main_arg6 m c)))⟩

end Cert.KernelIdeal.Final

namespace Cert.Equation

/-- The scales of the two programs are the same array. -/
theorem scales (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Gen.V m' c Cert.ReferenceIdeal.main_v3 = Cert.KernelIdeal.Gen.V m c Cert.KernelIdeal.main_v5 := by
  refine (Host.Reference.scales m' c).trans (Eq.trans ?_ (Host.Kernel.scales m c).symm)
  rw [h1, h3, h5]

/-- The gradients of the two programs are the same array. -/
theorem dy (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.V m' c Cert.ReferenceIdeal.main_v4 = Cert.KernelIdeal.Gen.V m c Cert.KernelIdeal.main_v0 := by
  refine (Host.Reference.dy m' c).trans (Eq.trans ?_ (Host.Kernel.dy m c).symm)
  rw [h]

/-- The activations of the two programs are the same array. -/
theorem x (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.V m' c Cert.ReferenceIdeal.main_v5 = Cert.KernelIdeal.Gen.V m c Cert.KernelIdeal.main_v1 := by
  refine (Host.Reference.x m' c).trans (Eq.trans ?_ (Host.Kernel.x m c).symm)
  rw [h]

/-- The value claim: from equal arguments the kernel and the reference end with the same input gradient, sum of weight
    gradients, largest magnitude and codes, and neither changes an argument. -/
theorem algebraic : Cert.algebraic_KernelIdeal_ReferenceIdeal := by
  intro m g m' g' _ hargs
  refine ⟨_, _, _, _, Cert.KernelIdeal.Final.run m g, ?_⟩
  refine (θ_run Cert.ReferenceIdeal.defs _ _).mono (fun r h c => ?_) (Cert.ReferenceIdeal.Value.run_blocks m' g')
  obtain ⟨h0, h1, h2, h3, h4, h5, h6⟩ := hargs c
  obtain ⟨r0, r1, r2, r3, k⟩ := h c
  have eS := scales m m' c h1 h3 h5
  have eD := dy m m' c h0
  have eX := x m m' c h2
  have eW : Cert.ReferenceIdeal.Gen.V m' c Cert.ReferenceIdeal.main_arg4 = Cert.KernelIdeal.Gen.V m c Cert.KernelIdeal.main_arg4 :=
    (Cert.ReferenceIdeal.Gen.V_main_arg4 m' c).trans (h4.trans (Cert.KernelIdeal.Gen.V_main_arg4 m c).symm)
  have eG : Cert.ReferenceIdeal.Gen.V m' c Cert.ReferenceIdeal.main_arg6 = Cert.KernelIdeal.Gen.V m c Cert.KernelIdeal.main_arg6 :=
    (Cert.ReferenceIdeal.Gen.V_main_arg6 m' c).trans (h6.trans (Cert.KernelIdeal.Gen.V_main_arg6 m c).symm)
  refine ⟨r0.trans ((Cert.ReferenceIdeal.Final.dx m' c).trans ?_), r1.trans ((Cert.ReferenceIdeal.Final.mgo m' c).trans ?_),
    r2.trans ((Cert.ReferenceIdeal.Final.amax m' c).trans ?_), r3.trans ((Cert.ReferenceIdeal.Final.codes m' c).trans ?_), k⟩
  · rw [Cert.ReferenceIdeal.Block.dx, eS, eD, eW]
  · rw [Cert.ReferenceIdeal.Block.mgo, eS, eD, eX, eG]
  · rw [Cert.ReferenceIdeal.Block.amax, eD]
    rfl
  · rw [Cert.ReferenceIdeal.Block.codes, eS, eD]

end Cert.Equation

end
-- ==== Proof.lean ====
/- The claims, assembled. -/
module

public import proofs.«01_k».proof.Defs
public import proofs.«01_k».proof.Proof.Gen.Kernel
public import proofs.«01_k».proof.Proof.Gen.KernelIdeal
public import proofs.«01_k».proof.Proof.Gen.ReferenceIdeal.Frame
public import proofs.«01_k».proof.Proof.Same
public import proofs.«01_k».proof.Proof.PI.Frame
public import proofs.«01_k».proof.Proof.Equation

@[expose] public section

noncomputable section

namespace Cert.Proof

open Idealize.ShloMosaic Idealize.SL.Sem

/-- Each program runs to its end, leaves its arguments as they were and every semaphore at zero; nothing was
    rewritten; and from equal arguments the kernel and the reference end with the same four results. -/
theorem claim : Cert.Claim :=
  ⟨Cert.Kernel.Gen.facts, Cert.KernelIdeal.Gen.facts, Cert.ReferenceIdeal.Gen.facts,
    fun m ρ _ => Cert.Same.run_same ⟨m, fun _ => 0, ρ⟩ _ (Cert.KernelIdeal.Body.frame (F := Bits) m ρ),
    fun m ρ _ => Cert.KernelIdeal.Body.frame (F := Ideal) m ρ,
    fun m ρ _ => Cert.ReferenceIdeal.Gen.frame m ρ,
    trivial, Cert.Equation.algebraic⟩

end Cert.Proof

end
